-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v346) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x3584 : Shape := ⟨3, ![96, 1, 3584]⟩
abbrev S18944x896x3 : Shape := ⟨3, ![18944, 896, 3]⟩
abbrev S18944 : Shape := ⟨1, ![18944]⟩
abbrev S3x18944x896 : Shape := ⟨3, ![3, 18944, 896]⟩
abbrev S96x7x128x4 : Shape := ⟨4, ![96, 7, 128, 4]⟩
abbrev S96x7x4x128 : Shape := ⟨4, ![96, 7, 4, 128]⟩
abbrev S96x3584 : Shape := ⟨2, ![96, 3584]⟩
abbrev S1x18944 : Shape := ⟨2, ![1, 18944]⟩
abbrev S96x18944 : Shape := ⟨2, ![96, 18944]⟩
abbrev S3x512x896 : Shape := ⟨3, ![3, 512, 896]⟩
abbrev S1x512 : Shape := ⟨2, ![1, 512]⟩
abbrev S96x512 : Shape := ⟨2, ![96, 512]⟩
abbrev S1x512x128 : Shape := ⟨3, ![1, 512, 128]⟩
abbrev S512x128 : Shape := ⟨2, ![512, 128]⟩
abbrev S128x512 : Shape := ⟨2, ![128, 512]⟩
abbrev S32x512 : Shape := ⟨2, ![32, 512]⟩
abbrev S256x512 : Shape := ⟨2, ![256, 512]⟩
abbrev S96x256 : Shape := ⟨2, ![96, 256]⟩
abbrev S96x1x18944 : Shape := ⟨3, ![96, 1, 18944]⟩

abbrev nBuf : Space → Nat
  | .hbm => 10
  | .vmem => 7
  | .smem => 0
  | _ => 0

abbrev bufTy : (tb : Table) → Fin (tcTables nBuf tb) → BufTy
  | .hbm, ⟨0, _⟩ => ⟨S96x1x3584, .bf16⟩
  | .hbm, ⟨1, _⟩ => ⟨S18944x896x3, .i8⟩
  | .hbm, ⟨2, _⟩ => ⟨S18944, .f32⟩
  | .hbm, ⟨3, _⟩ => ⟨S3x18944x896, .i8⟩
  | .hbm, ⟨4, _⟩ => ⟨S96x7x128x4, .bf16⟩
  | .hbm, ⟨5, _⟩ => ⟨S96x7x4x128, .bf16⟩
  | .hbm, ⟨6, _⟩ => ⟨S96x3584, .bf16⟩
  | .hbm, ⟨7, _⟩ => ⟨S1x18944, .f32⟩
  | .hbm, ⟨8, _⟩ => ⟨S96x18944, .bf16⟩
  | .hbm, ⟨9, _⟩ => ⟨S96x1x18944, .bf16⟩
  | .local _ .vmem, ⟨0, _⟩ => ⟨S96x3584, .bf16⟩
  | .local _ .vmem, ⟨1, _⟩ => ⟨S3x512x896, .i8⟩
  | .local _ .vmem, ⟨2, _⟩ => ⟨S3x512x896, .i8⟩
  | .local _ .vmem, ⟨3, _⟩ => ⟨S1x512, .f32⟩
  | .local _ .vmem, ⟨4, _⟩ => ⟨S1x512, .f32⟩
  | .local _ .vmem, ⟨5, _⟩ => ⟨S96x512, .bf16⟩
  | .local _ .vmem, ⟨6, _⟩ => ⟨S96x512, .bf16⟩
  | _, _ => ⟨S96x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x512x896 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S96x1x3584 : Shape := ⟨3, ![96, 1, 3584]⟩
abbrev S18944x896x3 : Shape := ⟨3, ![18944, 896, 3]⟩
abbrev S18944 : Shape := ⟨1, ![18944]⟩
abbrev S96x896x4 : Shape := ⟨3, ![96, 896, 4]⟩
abbrev S96x896x1 : Shape := ⟨3, ![96, 896, 1]⟩
abbrev S96x896 : Shape := ⟨2, ![96, 896]⟩
abbrev S9472x896x3 : Shape := ⟨3, ![9472, 896, 3]⟩
abbrev S9472 : Shape := ⟨1, ![9472]⟩
abbrev S9472x896x1 : Shape := ⟨3, ![9472, 896, 1]⟩
abbrev S9472x896 : Shape := ⟨2, ![9472, 896]⟩
abbrev S_ : Shape := ⟨0, ![]⟩
abbrev S96x9472 : Shape := ⟨2, ![96, 9472]⟩
abbrev S1x9472 : Shape := ⟨2, ![1, 9472]⟩
abbrev S96x18944 : Shape := ⟨2, ![96, 18944]⟩
abbrev S96x1x18944 : Shape := ⟨3, ![96, 1, 18944]⟩

abbrev nBuf : Space → Nat
  | .hbm => 462
  | .vmem => 0
  | .smem => 0
  | _ => 0

abbrev hbmTy0_0 (i : Nat) : BufTy := match i % 128 with
  | 0 => ⟨S96x1x3584, .bf16⟩
  | 1 => ⟨S18944x896x3, .i8⟩
  | 2 => ⟨S18944, .f32⟩
  | 3 => ⟨S96x896x4, .bf16⟩
  | 4 => ⟨S96x896x1, .bf16⟩
  | 5 => ⟨S96x896, .bf16⟩
  | 6 => ⟨S96x896x1, .bf16⟩
  | 7 => ⟨S96x896, .bf16⟩
  | 8 => ⟨S96x896x1, .bf16⟩
  | 9 => ⟨S96x896, .bf16⟩
  | 10 => ⟨S96x896x1, .bf16⟩
  | 11 => ⟨S96x896, .bf16⟩
  | 12 => ⟨S9472x896x3, .i8⟩
  | 13 => ⟨S9472, .f32⟩
  | 14 => ⟨S9472x896x1, .i8⟩
  | 15 => ⟨S9472x896, .i8⟩
  | 16 => ⟨S9472x896, .i32⟩
  | 17 => ⟨S9472x896x1, .i8⟩
  | 18 => ⟨S9472x896, .i8⟩
  | 19 => ⟨S9472x896, .i32⟩
  | 20 => ⟨S9472x896x1, .i8⟩
  | 21 => ⟨S9472x896, .i8⟩
  | 22 => ⟨S9472x896, .i32⟩
  | 23 => ⟨S_, .i32⟩
  | 24 => ⟨S9472x896, .i32⟩
  | 25 => ⟨S9472x896, .i32⟩
  | 26 => ⟨S_, .i32⟩
  | 27 => ⟨S9472x896, .i32⟩
  | 28 => ⟨S9472x896, .i32⟩
  | 29 => ⟨S_, .i32⟩
  | 30 => ⟨S9472x896, .i32⟩
  | 31 => ⟨S9472x896, .i32⟩
  | 32 => ⟨S_, .i32⟩
  | 33 => ⟨S9472x896, .i32⟩
  | 34 => ⟨S9472x896, .i32⟩
  | 35 => ⟨S9472x896, .i32⟩
  | 36 => ⟨S_, .i32⟩
  | 37 => ⟨S9472x896, .i32⟩
  | 38 => ⟨S9472x896, .i32⟩
  | 39 => ⟨S_, .i32⟩
  | 40 => ⟨S9472x896, .i32⟩
  | 41 => ⟨S9472x896, .i32⟩
  | 42 => ⟨S_, .i32⟩
  | 43 => ⟨S9472x896, .i32⟩
  | 44 => ⟨S9472x896, .i32⟩
  | 45 => ⟨S9472x896, .i32⟩
  | 46 => ⟨S_, .i32⟩
  | 47 => ⟨S9472x896, .i32⟩
  | 48 => ⟨S9472x896, .i32⟩
  | 49 => ⟨S_, .i32⟩
  | 50 => ⟨S9472x896, .i32⟩
  | 51 => ⟨S9472x896, .i32⟩
  | 52 => ⟨S_, .i32⟩
  | 53 => ⟨S9472x896, .i32⟩
  | 54 => ⟨S9472x896, .i32⟩
  | 55 => ⟨S_, .i32⟩
  | 56 => ⟨S9472x896, .i32⟩
  | 57 => ⟨S9472x896, .i32⟩
  | 58 => ⟨S_, .i32⟩
  | 59 => ⟨S9472x896, .i32⟩
  | 60 => ⟨S9472x896, .i32⟩
  | 61 => ⟨S_, .i32⟩
  | 62 => ⟨S9472x896, .i32⟩
  | 63 => ⟨S9472x896, .i32⟩
  | 64 => ⟨S_, .i32⟩
  | 65 => ⟨S9472x896, .i32⟩
  | 66 => ⟨S9472x896, .i32⟩
  | 67 => ⟨S_, .i32⟩
  | 68 => ⟨S9472x896, .i32⟩
  | 69 => ⟨S9472x896, .i32⟩
  | 70 => ⟨S_, .i32⟩
  | 71 => ⟨S9472x896, .i32⟩
  | 72 => ⟨S9472x896, .i32⟩
  | 73 => ⟨S_, .i32⟩
  | 74 => ⟨S9472x896, .i32⟩
  | 75 => ⟨S9472x896, .i32⟩
  | 76 => ⟨S9472x896, .i32⟩
  | 77 => ⟨S9472x896, .i16⟩
  | 78 => ⟨S9472x896, .bf16⟩
  | 79 => ⟨S9472x896, .f32⟩
  | 80 => ⟨S_, .f32⟩
  | 81 => ⟨S9472x896, .f32⟩
  | 82 => ⟨S9472x896, .f32⟩
  | 83 => ⟨S9472x896, .bf16⟩
  | 84 => ⟨S_, .i32⟩
  | 85 => ⟨S9472x896, .i32⟩
  | 86 => ⟨S9472x896, .i1⟩
  | 87 => ⟨S9472x896, .bf16⟩
  | 88 => ⟨S9472x896, .bf16⟩
  | 89 => ⟨S_, .i32⟩
  | 90 => ⟨S9472x896, .i32⟩
  | 91 => ⟨S9472x896, .i1⟩
  | 92 => ⟨S9472x896, .bf16⟩
  | 93 => ⟨S96x9472, .f32⟩
  | 94 => ⟨S_, .i32⟩
  | 95 => ⟨S9472x896, .i32⟩
  | 96 => ⟨S9472x896, .i32⟩
  | 97 => ⟨S_, .i32⟩
  | 98 => ⟨S9472x896, .i32⟩
  | 99 => ⟨S9472x896, .i32⟩
  | 100 => ⟨S_, .i32⟩
  | 101 => ⟨S9472x896, .i32⟩
  | 102 => ⟨S9472x896, .i32⟩
  | 103 => ⟨S_, .i32⟩
  | 104 => ⟨S9472x896, .i32⟩
  | 105 => ⟨S9472x896, .i32⟩
  | 106 => ⟨S_, .i32⟩
  | 107 => ⟨S9472x896, .i32⟩
  | 108 => ⟨S9472x896, .i32⟩
  | 109 => ⟨S_, .i32⟩
  | 110 => ⟨S9472x896, .i32⟩
  | 111 => ⟨S9472x896, .i32⟩
  | 112 => ⟨S_, .i32⟩
  | 113 => ⟨S9472x896, .i32⟩
  | 114 => ⟨S9472x896, .i32⟩
  | 115 => ⟨S_, .i32⟩
  | 116 => ⟨S9472x896, .i32⟩
  | 117 => ⟨S9472x896, .i32⟩
  | 118 => ⟨S_, .i32⟩
  | 119 => ⟨S9472x896, .i32⟩
  | 120 => ⟨S9472x896, .i32⟩
  | 121 => ⟨S9472x896, .i32⟩
  | 122 => ⟨S9472x896, .i16⟩
  | 123 => ⟨S9472x896, .bf16⟩
  | 124 => ⟨S9472x896, .f32⟩
  | 125 => ⟨S_, .f32⟩
  | 126 => ⟨S9472x896, .f32⟩
  | 127 => ⟨S9472x896, .f32⟩
  | _ => ⟨S96x1x3584, .bf16⟩

abbrev hbmTy0_1 (i : Nat) : BufTy := match i % 128 with
  | 0 => ⟨S9472x896, .bf16⟩
  | 1 => ⟨S_, .i32⟩
  | 2 => ⟨S9472x896, .i32⟩
  | 3 => ⟨S9472x896, .i1⟩
  | 4 => ⟨S9472x896, .bf16⟩
  | 5 => ⟨S9472x896, .bf16⟩
  | 6 => ⟨S_, .i32⟩
  | 7 => ⟨S9472x896, .i32⟩
  | 8 => ⟨S9472x896, .i1⟩
  | 9 => ⟨S9472x896, .bf16⟩
  | 10 => ⟨S96x9472, .f32⟩
  | 11 => ⟨S96x9472, .f32⟩
  | 12 => ⟨S_, .i32⟩
  | 13 => ⟨S9472x896, .i32⟩
  | 14 => ⟨S9472x896, .i32⟩
  | 15 => ⟨S_, .i32⟩
  | 16 => ⟨S9472x896, .i32⟩
  | 17 => ⟨S9472x896, .i32⟩
  | 18 => ⟨S_, .i32⟩
  | 19 => ⟨S9472x896, .i32⟩
  | 20 => ⟨S9472x896, .i32⟩
  | 21 => ⟨S_, .i32⟩
  | 22 => ⟨S9472x896, .i32⟩
  | 23 => ⟨S9472x896, .i32⟩
  | 24 => ⟨S_, .i32⟩
  | 25 => ⟨S9472x896, .i32⟩
  | 26 => ⟨S9472x896, .i32⟩
  | 27 => ⟨S_, .i32⟩
  | 28 => ⟨S9472x896, .i32⟩
  | 29 => ⟨S9472x896, .i32⟩
  | 30 => ⟨S_, .i32⟩
  | 31 => ⟨S9472x896, .i32⟩
  | 32 => ⟨S9472x896, .i32⟩
  | 33 => ⟨S_, .i32⟩
  | 34 => ⟨S9472x896, .i32⟩
  | 35 => ⟨S9472x896, .i32⟩
  | 36 => ⟨S_, .i32⟩
  | 37 => ⟨S9472x896, .i32⟩
  | 38 => ⟨S9472x896, .i32⟩
  | 39 => ⟨S9472x896, .i32⟩
  | 40 => ⟨S9472x896, .i16⟩
  | 41 => ⟨S9472x896, .bf16⟩
  | 42 => ⟨S9472x896, .f32⟩
  | 43 => ⟨S_, .f32⟩
  | 44 => ⟨S9472x896, .f32⟩
  | 45 => ⟨S9472x896, .f32⟩
  | 46 => ⟨S9472x896, .bf16⟩
  | 47 => ⟨S_, .i32⟩
  | 48 => ⟨S9472x896, .i32⟩
  | 49 => ⟨S9472x896, .i1⟩
  | 50 => ⟨S9472x896, .bf16⟩
  | 51 => ⟨S9472x896, .bf16⟩
  | 52 => ⟨S_, .i32⟩
  | 53 => ⟨S9472x896, .i32⟩
  | 54 => ⟨S9472x896, .i1⟩
  | 55 => ⟨S9472x896, .bf16⟩
  | 56 => ⟨S96x9472, .f32⟩
  | 57 => ⟨S96x9472, .f32⟩
  | 58 => ⟨S_, .i32⟩
  | 59 => ⟨S9472x896, .i32⟩
  | 60 => ⟨S9472x896, .i32⟩
  | 61 => ⟨S_, .i32⟩
  | 62 => ⟨S9472x896, .i32⟩
  | 63 => ⟨S9472x896, .i32⟩
  | 64 => ⟨S_, .i32⟩
  | 65 => ⟨S9472x896, .i32⟩
  | 66 => ⟨S9472x896, .i32⟩
  | 67 => ⟨S_, .i32⟩
  | 68 => ⟨S9472x896, .i32⟩
  | 69 => ⟨S9472x896, .i32⟩
  | 70 => ⟨S_, .i32⟩
  | 71 => ⟨S9472x896, .i32⟩
  | 72 => ⟨S9472x896, .i32⟩
  | 73 => ⟨S_, .i32⟩
  | 74 => ⟨S9472x896, .i32⟩
  | 75 => ⟨S9472x896, .i32⟩
  | 76 => ⟨S_, .i32⟩
  | 77 => ⟨S9472x896, .i32⟩
  | 78 => ⟨S9472x896, .i32⟩
  | 79 => ⟨S_, .i32⟩
  | 80 => ⟨S9472x896, .i32⟩
  | 81 => ⟨S9472x896, .i32⟩
  | 82 => ⟨S_, .i32⟩
  | 83 => ⟨S9472x896, .i32⟩
  | 84 => ⟨S9472x896, .i32⟩
  | 85 => ⟨S9472x896, .i32⟩
  | 86 => ⟨S9472x896, .i16⟩
  | 87 => ⟨S9472x896, .bf16⟩
  | 88 => ⟨S9472x896, .f32⟩
  | 89 => ⟨S_, .f32⟩
  | 90 => ⟨S9472x896, .f32⟩
  | 91 => ⟨S9472x896, .f32⟩
  | 92 => ⟨S9472x896, .bf16⟩
  | 93 => ⟨S_, .i32⟩
  | 94 => ⟨S9472x896, .i32⟩
  | 95 => ⟨S9472x896, .i1⟩
  | 96 => ⟨S9472x896, .bf16⟩
  | 97 => ⟨S9472x896, .bf16⟩
  | 98 => ⟨S_, .i32⟩
  | 99 => ⟨S9472x896, .i32⟩
  | 100 => ⟨S9472x896, .i1⟩
  | 101 => ⟨S9472x896, .bf16⟩
  | 102 => ⟨S96x9472, .f32⟩
  | 103 => ⟨S96x9472, .f32⟩
  | 104 => ⟨S1x9472, .f32⟩
  | 105 => ⟨S96x9472, .f32⟩
  | 106 => ⟨S96x9472, .f32⟩
  | 107 => ⟨S96x9472, .bf16⟩
  | 108 => ⟨S9472x896x3, .i8⟩
  | 109 => ⟨S9472, .f32⟩
  | 110 => ⟨S9472x896x1, .i8⟩
  | 111 => ⟨S9472x896, .i8⟩
  | 112 => ⟨S9472x896, .i32⟩
  | 113 => ⟨S9472x896x1, .i8⟩
  | 114 => ⟨S9472x896, .i8⟩
  | 115 => ⟨S9472x896, .i32⟩
  | 116 => ⟨S9472x896x1, .i8⟩
  | 117 => ⟨S9472x896, .i8⟩
  | 118 => ⟨S9472x896, .i32⟩
  | 119 => ⟨S_, .i32⟩
  | 120 => ⟨S9472x896, .i32⟩
  | 121 => ⟨S9472x896, .i32⟩
  | 122 => ⟨S_, .i32⟩
  | 123 => ⟨S9472x896, .i32⟩
  | 124 => ⟨S9472x896, .i32⟩
  | 125 => ⟨S_, .i32⟩
  | 126 => ⟨S9472x896, .i32⟩
  | 127 => ⟨S9472x896, .i32⟩
  | _ => ⟨S96x1x3584, .bf16⟩

abbrev hbmTy0_2 (i : Nat) : BufTy := match i % 128 with
  | 0 => ⟨S_, .i32⟩
  | 1 => ⟨S9472x896, .i32⟩
  | 2 => ⟨S9472x896, .i32⟩
  | 3 => ⟨S9472x896, .i32⟩
  | 4 => ⟨S_, .i32⟩
  | 5 => ⟨S9472x896, .i32⟩
  | 6 => ⟨S9472x896, .i32⟩
  | 7 => ⟨S_, .i32⟩
  | 8 => ⟨S9472x896, .i32⟩
  | 9 => ⟨S9472x896, .i32⟩
  | 10 => ⟨S_, .i32⟩
  | 11 => ⟨S9472x896, .i32⟩
  | 12 => ⟨S9472x896, .i32⟩
  | 13 => ⟨S9472x896, .i32⟩
  | 14 => ⟨S_, .i32⟩
  | 15 => ⟨S9472x896, .i32⟩
  | 16 => ⟨S9472x896, .i32⟩
  | 17 => ⟨S_, .i32⟩
  | 18 => ⟨S9472x896, .i32⟩
  | 19 => ⟨S9472x896, .i32⟩
  | 20 => ⟨S_, .i32⟩
  | 21 => ⟨S9472x896, .i32⟩
  | 22 => ⟨S9472x896, .i32⟩
  | 23 => ⟨S_, .i32⟩
  | 24 => ⟨S9472x896, .i32⟩
  | 25 => ⟨S9472x896, .i32⟩
  | 26 => ⟨S_, .i32⟩
  | 27 => ⟨S9472x896, .i32⟩
  | 28 => ⟨S9472x896, .i32⟩
  | 29 => ⟨S_, .i32⟩
  | 30 => ⟨S9472x896, .i32⟩
  | 31 => ⟨S9472x896, .i32⟩
  | 32 => ⟨S_, .i32⟩
  | 33 => ⟨S9472x896, .i32⟩
  | 34 => ⟨S9472x896, .i32⟩
  | 35 => ⟨S_, .i32⟩
  | 36 => ⟨S9472x896, .i32⟩
  | 37 => ⟨S9472x896, .i32⟩
  | 38 => ⟨S_, .i32⟩
  | 39 => ⟨S9472x896, .i32⟩
  | 40 => ⟨S9472x896, .i32⟩
  | 41 => ⟨S_, .i32⟩
  | 42 => ⟨S9472x896, .i32⟩
  | 43 => ⟨S9472x896, .i32⟩
  | 44 => ⟨S9472x896, .i32⟩
  | 45 => ⟨S9472x896, .i16⟩
  | 46 => ⟨S9472x896, .bf16⟩
  | 47 => ⟨S9472x896, .f32⟩
  | 48 => ⟨S_, .f32⟩
  | 49 => ⟨S9472x896, .f32⟩
  | 50 => ⟨S9472x896, .f32⟩
  | 51 => ⟨S9472x896, .bf16⟩
  | 52 => ⟨S_, .i32⟩
  | 53 => ⟨S9472x896, .i32⟩
  | 54 => ⟨S9472x896, .i1⟩
  | 55 => ⟨S9472x896, .bf16⟩
  | 56 => ⟨S9472x896, .bf16⟩
  | 57 => ⟨S_, .i32⟩
  | 58 => ⟨S9472x896, .i32⟩
  | 59 => ⟨S9472x896, .i1⟩
  | 60 => ⟨S9472x896, .bf16⟩
  | 61 => ⟨S96x9472, .f32⟩
  | 62 => ⟨S_, .i32⟩
  | 63 => ⟨S9472x896, .i32⟩
  | 64 => ⟨S9472x896, .i32⟩
  | 65 => ⟨S_, .i32⟩
  | 66 => ⟨S9472x896, .i32⟩
  | 67 => ⟨S9472x896, .i32⟩
  | 68 => ⟨S_, .i32⟩
  | 69 => ⟨S9472x896, .i32⟩
  | 70 => ⟨S9472x896, .i32⟩
  | 71 => ⟨S_, .i32⟩
  | 72 => ⟨S9472x896, .i32⟩
  | 73 => ⟨S9472x896, .i32⟩
  | 74 => ⟨S_, .i32⟩
  | 75 => ⟨S9472x896, .i32⟩
  | 76 => ⟨S9472x896, .i32⟩
  | 77 => ⟨S_, .i32⟩
  | 78 => ⟨S9472x896, .i32⟩
  | 79 => ⟨S9472x896, .i32⟩
  | 80 => ⟨S_, .i32⟩
  | 81 => ⟨S9472x896, .i32⟩
  | 82 => ⟨S9472x896, .i32⟩
  | 83 => ⟨S_, .i32⟩
  | 84 => ⟨S9472x896, .i32⟩
  | 85 => ⟨S9472x896, .i32⟩
  | 86 => ⟨S_, .i32⟩
  | 87 => ⟨S9472x896, .i32⟩
  | 88 => ⟨S9472x896, .i32⟩
  | 89 => ⟨S9472x896, .i32⟩
  | 90 => ⟨S9472x896, .i16⟩
  | 91 => ⟨S9472x896, .bf16⟩
  | 92 => ⟨S9472x896, .f32⟩
  | 93 => ⟨S_, .f32⟩
  | 94 => ⟨S9472x896, .f32⟩
  | 95 => ⟨S9472x896, .f32⟩
  | 96 => ⟨S9472x896, .bf16⟩
  | 97 => ⟨S_, .i32⟩
  | 98 => ⟨S9472x896, .i32⟩
  | 99 => ⟨S9472x896, .i1⟩
  | 100 => ⟨S9472x896, .bf16⟩
  | 101 => ⟨S9472x896, .bf16⟩
  | 102 => ⟨S_, .i32⟩
  | 103 => ⟨S9472x896, .i32⟩
  | 104 => ⟨S9472x896, .i1⟩
  | 105 => ⟨S9472x896, .bf16⟩
  | 106 => ⟨S96x9472, .f32⟩
  | 107 => ⟨S96x9472, .f32⟩
  | 108 => ⟨S_, .i32⟩
  | 109 => ⟨S9472x896, .i32⟩
  | 110 => ⟨S9472x896, .i32⟩
  | 111 => ⟨S_, .i32⟩
  | 112 => ⟨S9472x896, .i32⟩
  | 113 => ⟨S9472x896, .i32⟩
  | 114 => ⟨S_, .i32⟩
  | 115 => ⟨S9472x896, .i32⟩
  | 116 => ⟨S9472x896, .i32⟩
  | 117 => ⟨S_, .i32⟩
  | 118 => ⟨S9472x896, .i32⟩
  | 119 => ⟨S9472x896, .i32⟩
  | 120 => ⟨S_, .i32⟩
  | 121 => ⟨S9472x896, .i32⟩
  | 122 => ⟨S9472x896, .i32⟩
  | 123 => ⟨S_, .i32⟩
  | 124 => ⟨S9472x896, .i32⟩
  | 125 => ⟨S9472x896, .i32⟩
  | 126 => ⟨S_, .i32⟩
  | 127 => ⟨S9472x896, .i32⟩
  | _ => ⟨S96x1x3584, .bf16⟩

abbrev hbmTy0_3 (i : Nat) : BufTy := match i % 128 with
  | 0 => ⟨S9472x896, .i32⟩
  | 1 => ⟨S_, .i32⟩
  | 2 => ⟨S9472x896, .i32⟩
  | 3 => ⟨S9472x896, .i32⟩
  | 4 => ⟨S_, .i32⟩
  | 5 => ⟨S9472x896, .i32⟩
  | 6 => ⟨S9472x896, .i32⟩
  | 7 => ⟨S9472x896, .i32⟩
  | 8 => ⟨S9472x896, .i16⟩
  | 9 => ⟨S9472x896, .bf16⟩
  | 10 => ⟨S9472x896, .f32⟩
  | 11 => ⟨S_, .f32⟩
  | 12 => ⟨S9472x896, .f32⟩
  | 13 => ⟨S9472x896, .f32⟩
  | 14 => ⟨S9472x896, .bf16⟩
  | 15 => ⟨S_, .i32⟩
  | 16 => ⟨S9472x896, .i32⟩
  | 17 => ⟨S9472x896, .i1⟩
  | 18 => ⟨S9472x896, .bf16⟩
  | 19 => ⟨S9472x896, .bf16⟩
  | 20 => ⟨S_, .i32⟩
  | 21 => ⟨S9472x896, .i32⟩
  | 22 => ⟨S9472x896, .i1⟩
  | 23 => ⟨S9472x896, .bf16⟩
  | 24 => ⟨S96x9472, .f32⟩
  | 25 => ⟨S96x9472, .f32⟩
  | 26 => ⟨S_, .i32⟩
  | 27 => ⟨S9472x896, .i32⟩
  | 28 => ⟨S9472x896, .i32⟩
  | 29 => ⟨S_, .i32⟩
  | 30 => ⟨S9472x896, .i32⟩
  | 31 => ⟨S9472x896, .i32⟩
  | 32 => ⟨S_, .i32⟩
  | 33 => ⟨S9472x896, .i32⟩
  | 34 => ⟨S9472x896, .i32⟩
  | 35 => ⟨S_, .i32⟩
  | 36 => ⟨S9472x896, .i32⟩
  | 37 => ⟨S9472x896, .i32⟩
  | 38 => ⟨S_, .i32⟩
  | 39 => ⟨S9472x896, .i32⟩
  | 40 => ⟨S9472x896, .i32⟩
  | 41 => ⟨S_, .i32⟩
  | 42 => ⟨S9472x896, .i32⟩
  | 43 => ⟨S9472x896, .i32⟩
  | 44 => ⟨S_, .i32⟩
  | 45 => ⟨S9472x896, .i32⟩
  | 46 => ⟨S9472x896, .i32⟩
  | 47 => ⟨S_, .i32⟩
  | 48 => ⟨S9472x896, .i32⟩
  | 49 => ⟨S9472x896, .i32⟩
  | 50 => ⟨S_, .i32⟩
  | 51 => ⟨S9472x896, .i32⟩
  | 52 => ⟨S9472x896, .i32⟩
  | 53 => ⟨S9472x896, .i32⟩
  | 54 => ⟨S9472x896, .i16⟩
  | 55 => ⟨S9472x896, .bf16⟩
  | 56 => ⟨S9472x896, .f32⟩
  | 57 => ⟨S_, .f32⟩
  | 58 => ⟨S9472x896, .f32⟩
  | 59 => ⟨S9472x896, .f32⟩
  | 60 => ⟨S9472x896, .bf16⟩
  | 61 => ⟨S_, .i32⟩
  | 62 => ⟨S9472x896, .i32⟩
  | 63 => ⟨S9472x896, .i1⟩
  | 64 => ⟨S9472x896, .bf16⟩
  | 65 => ⟨S9472x896, .bf16⟩
  | 66 => ⟨S_, .i32⟩
  | 67 => ⟨S9472x896, .i32⟩
  | 68 => ⟨S9472x896, .i1⟩
  | 69 => ⟨S9472x896, .bf16⟩
  | 70 => ⟨S96x9472, .f32⟩
  | 71 => ⟨S96x9472, .f32⟩
  | 72 => ⟨S1x9472, .f32⟩
  | 73 => ⟨S96x9472, .f32⟩
  | 74 => ⟨S96x9472, .f32⟩
  | 75 => ⟨S96x9472, .bf16⟩
  | 76 => ⟨S96x18944, .bf16⟩
  | 77 => ⟨S96x1x18944, .bf16⟩
  | _ => ⟨S96x1x3584, .bf16⟩

abbrev hbmTy (i : Nat) : BufTy := match i / 128 with
  | 0 => hbmTy0_0 i
  | 1 => hbmTy0_1 i
  | 2 => hbmTy0_2 i
  | 3 => hbmTy0_3 i
  | _ => ⟨S96x1x3584, .bf16⟩

abbrev bufTy : (tb : Table) → Fin (tcTables nBuf tb) → BufTy
  | .hbm, ⟨i, _⟩ => hbmTy i
  | _, _ => ⟨S96x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_c_7 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_c_10 : Ref sig .tc := ⟨.hbm, 58, rfl⟩
abbrev main_v44 : Ref sig .tc := ⟨.hbm, 59, rfl⟩
abbrev main_v45 : Ref sig .tc := ⟨.hbm, 60, rfl⟩
abbrev main_c_11 : Ref sig .tc := ⟨.hbm, 61, rfl⟩
abbrev main_v46 : Ref sig .tc := ⟨.hbm, 62, rfl⟩
abbrev main_v47 : Ref sig .tc := ⟨.hbm, 63, rfl⟩
abbrev main_c_12 : Ref sig .tc := ⟨.hbm, 64, rfl⟩
abbrev main_v48 : Ref sig .tc := ⟨.hbm, 65, rfl⟩
abbrev main_v49 : Ref sig .tc := ⟨.hbm, 66, rfl⟩
abbrev main_c_13 : Ref sig .tc := ⟨.hbm, 67, rfl⟩
abbrev main_v50 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_c_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_16 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_17 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_18 : Ref sig .tc := ⟨.hbm, 94, rfl⟩
abbrev main_v71 : Ref sig .tc := ⟨.hbm, 95, rfl⟩
abbrev main_v72 : Ref sig .tc := ⟨.hbm, 96, rfl⟩
abbrev main_c_19 : Ref sig .tc := ⟨.hbm, 97, rfl⟩
abbrev main_v73 : Ref sig .tc := ⟨.hbm, 98, rfl⟩
abbrev main_v74 : Ref sig .tc := ⟨.hbm, 99, rfl⟩
abbrev main_c_20 : Ref sig .tc := ⟨.hbm, 100, rfl⟩
abbrev main_v75 : Ref sig .tc := ⟨.hbm, 101, rfl⟩
abbrev main_v76 : Ref sig .tc := ⟨.hbm, 102, rfl⟩
abbrev main_c_21 : Ref sig .tc := ⟨.hbm, 103, rfl⟩
abbrev main_v77 : Ref sig .tc := ⟨.hbm, 104, rfl⟩
abbrev main_v78 : Ref sig .tc := ⟨.hbm, 105, rfl⟩
abbrev main_c_22 : Ref sig .tc := ⟨.hbm, 106, rfl⟩
abbrev main_v79 : Ref sig .tc := ⟨.hbm, 107, rfl⟩
abbrev main_v80 : Ref sig .tc := ⟨.hbm, 108, rfl⟩
abbrev main_c_23 : Ref sig .tc := ⟨.hbm, 109, rfl⟩
abbrev main_v81 : Ref sig .tc := ⟨.hbm, 110, rfl⟩
abbrev main_v82 : Ref sig .tc := ⟨.hbm, 111, rfl⟩
abbrev main_c_24 : Ref sig .tc := ⟨.hbm, 112, rfl⟩
abbrev main_v83 : Ref sig .tc := ⟨.hbm, 113, rfl⟩
abbrev main_v84 : Ref sig .tc := ⟨.hbm, 114, rfl⟩
abbrev main_c_25 : Ref sig .tc := ⟨.hbm, 115, rfl⟩
abbrev main_v85 : Ref sig .tc := ⟨.hbm, 116, rfl⟩
abbrev main_v86 : Ref sig .tc := ⟨.hbm, 117, rfl⟩
abbrev main_c_26 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_27 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_28 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_29 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_30 : Ref sig .tc := ⟨.hbm, 140, rfl⟩
abbrev main_v105 : Ref sig .tc := ⟨.hbm, 141, rfl⟩
abbrev main_v106 : Ref sig .tc := ⟨.hbm, 142, rfl⟩
abbrev main_c_31 : Ref sig .tc := ⟨.hbm, 143, rfl⟩
abbrev main_v107 : Ref sig .tc := ⟨.hbm, 144, rfl⟩
abbrev main_v108 : Ref sig .tc := ⟨.hbm, 145, rfl⟩
abbrev main_c_32 : Ref sig .tc := ⟨.hbm, 146, rfl⟩
abbrev main_v109 : Ref sig .tc := ⟨.hbm, 147, rfl⟩
abbrev main_v110 : Ref sig .tc := ⟨.hbm, 148, rfl⟩
abbrev main_c_33 : Ref sig .tc := ⟨.hbm, 149, rfl⟩
abbrev main_v111 : Ref sig .tc := ⟨.hbm, 150, rfl⟩
abbrev main_v112 : Ref sig .tc := ⟨.hbm, 151, rfl⟩
abbrev main_c_34 : Ref sig .tc := ⟨.hbm, 152, rfl⟩
abbrev main_v113 : Ref sig .tc := ⟨.hbm, 153, rfl⟩
abbrev main_v114 : Ref sig .tc := ⟨.hbm, 154, rfl⟩
abbrev main_c_35 : Ref sig .tc := ⟨.hbm, 155, rfl⟩
abbrev main_v115 : Ref sig .tc := ⟨.hbm, 156, rfl⟩
abbrev main_v116 : Ref sig .tc := ⟨.hbm, 157, rfl⟩
abbrev main_c_36 : Ref sig .tc := ⟨.hbm, 158, rfl⟩
abbrev main_v117 : Ref sig .tc := ⟨.hbm, 159, rfl⟩
abbrev main_v118 : Ref sig .tc := ⟨.hbm, 160, rfl⟩
abbrev main_c_37 : Ref sig .tc := ⟨.hbm, 161, rfl⟩
abbrev main_v119 : Ref sig .tc := ⟨.hbm, 162, rfl⟩
abbrev main_v120 : Ref sig .tc := ⟨.hbm, 163, rfl⟩
abbrev main_c_38 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_39 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_40 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_41 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_c_42 : Ref sig .tc := ⟨.hbm, 186, rfl⟩
abbrev main_v139 : Ref sig .tc := ⟨.hbm, 187, rfl⟩
abbrev main_v140 : Ref sig .tc := ⟨.hbm, 188, rfl⟩
abbrev main_c_43 : Ref sig .tc := ⟨.hbm, 189, rfl⟩
abbrev main_v141 : Ref sig .tc := ⟨.hbm, 190, rfl⟩
abbrev main_v142 : Ref sig .tc := ⟨.hbm, 191, rfl⟩
abbrev main_c_44 : Ref sig .tc := ⟨.hbm, 192, rfl⟩
abbrev main_v143 : Ref sig .tc := ⟨.hbm, 193, rfl⟩
abbrev main_v144 : Ref sig .tc := ⟨.hbm, 194, rfl⟩
abbrev main_c_45 : Ref sig .tc := ⟨.hbm, 195, rfl⟩
abbrev main_v145 : Ref sig .tc := ⟨.hbm, 196, rfl⟩
abbrev main_v146 : Ref sig .tc := ⟨.hbm, 197, rfl⟩
abbrev main_c_46 : Ref sig .tc := ⟨.hbm, 198, rfl⟩
abbrev main_v147 : Ref sig .tc := ⟨.hbm, 199, rfl⟩
abbrev main_v148 : Ref sig .tc := ⟨.hbm, 200, rfl⟩
abbrev main_c_47 : Ref sig .tc := ⟨.hbm, 201, rfl⟩
abbrev main_v149 : Ref sig .tc := ⟨.hbm, 202, rfl⟩
abbrev main_v150 : Ref sig .tc := ⟨.hbm, 203, rfl⟩
abbrev main_c_48 : Ref sig .tc := ⟨.hbm, 204, rfl⟩
abbrev main_v151 : Ref sig .tc := ⟨.hbm, 205, rfl⟩
abbrev main_v152 : Ref sig .tc := ⟨.hbm, 206, rfl⟩
abbrev main_c_49 : Ref sig .tc := ⟨.hbm, 207, rfl⟩
abbrev main_v153 : Ref sig .tc := ⟨.hbm, 208, rfl⟩
abbrev main_v154 : Ref sig .tc := ⟨.hbm, 209, rfl⟩
abbrev main_c_50 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_51 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_c_52 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_53 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_c_54 : Ref sig .tc := ⟨.hbm, 247, rfl⟩
abbrev main_v188 : Ref sig .tc := ⟨.hbm, 248, rfl⟩
abbrev main_v189 : Ref sig .tc := ⟨.hbm, 249, rfl⟩
abbrev main_c_55 : Ref sig .tc := ⟨.hbm, 250, rfl⟩
abbrev main_v190 : Ref sig .tc := ⟨.hbm, 251, rfl⟩
abbrev main_v191 : Ref sig .tc := ⟨.hbm, 252, rfl⟩
abbrev main_c_56 : Ref sig .tc := ⟨.hbm, 253, rfl⟩
abbrev main_v192 : Ref sig .tc := ⟨.hbm, 254, rfl⟩
abbrev main_v193 : Ref sig .tc := ⟨.hbm, 255, rfl⟩
abbrev main_c_57 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_c_58 : Ref sig .tc := ⟨.hbm, 260, rfl⟩
abbrev main_v197 : Ref sig .tc := ⟨.hbm, 261, rfl⟩
abbrev main_v198 : Ref sig .tc := ⟨.hbm, 262, rfl⟩
abbrev main_c_59 : Ref sig .tc := ⟨.hbm, 263, rfl⟩
abbrev main_v199 : Ref sig .tc := ⟨.hbm, 264, rfl⟩
abbrev main_v200 : Ref sig .tc := ⟨.hbm, 265, rfl⟩
abbrev main_c_60 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_c_61 : Ref sig .tc := ⟨.hbm, 270, rfl⟩
abbrev main_v204 : Ref sig .tc := ⟨.hbm, 271, rfl⟩
abbrev main_v205 : Ref sig .tc := ⟨.hbm, 272, rfl⟩
abbrev main_c_62 : Ref sig .tc := ⟨.hbm, 273, rfl⟩
abbrev main_v206 : Ref sig .tc := ⟨.hbm, 274, rfl⟩
abbrev main_v207 : Ref sig .tc := ⟨.hbm, 275, rfl⟩
abbrev main_c_63 : Ref sig .tc := ⟨.hbm, 276, rfl⟩
abbrev main_v208 : Ref sig .tc := ⟨.hbm, 277, rfl⟩
abbrev main_v209 : Ref sig .tc := ⟨.hbm, 278, rfl⟩
abbrev main_c_64 : Ref sig .tc := ⟨.hbm, 279, rfl⟩
abbrev main_v210 : Ref sig .tc := ⟨.hbm, 280, rfl⟩
abbrev main_v211 : Ref sig .tc := ⟨.hbm, 281, rfl⟩
abbrev main_c_65 : Ref sig .tc := ⟨.hbm, 282, rfl⟩
abbrev main_v212 : Ref sig .tc := ⟨.hbm, 283, rfl⟩
abbrev main_v213 : Ref sig .tc := ⟨.hbm, 284, rfl⟩
abbrev main_c_66 : Ref sig .tc := ⟨.hbm, 285, rfl⟩
abbrev main_v214 : Ref sig .tc := ⟨.hbm, 286, rfl⟩
abbrev main_v215 : Ref sig .tc := ⟨.hbm, 287, rfl⟩
abbrev main_c_67 : Ref sig .tc := ⟨.hbm, 288, rfl⟩
abbrev main_v216 : Ref sig .tc := ⟨.hbm, 289, rfl⟩
abbrev main_v217 : Ref sig .tc := ⟨.hbm, 290, rfl⟩
abbrev main_c_68 : Ref sig .tc := ⟨.hbm, 291, rfl⟩
abbrev main_v218 : Ref sig .tc := ⟨.hbm, 292, rfl⟩
abbrev main_v219 : Ref sig .tc := ⟨.hbm, 293, rfl⟩
abbrev main_c_69 : Ref sig .tc := ⟨.hbm, 294, rfl⟩
abbrev main_v220 : Ref sig .tc := ⟨.hbm, 295, rfl⟩
abbrev main_v221 : Ref sig .tc := ⟨.hbm, 296, rfl⟩
abbrev main_c_70 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_cst_71 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_c_72 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_c_73 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_c_74 : Ref sig .tc := ⟨.hbm, 318, rfl⟩
abbrev main_v239 : Ref sig .tc := ⟨.hbm, 319, rfl⟩
abbrev main_v240 : Ref sig .tc := ⟨.hbm, 320, rfl⟩
abbrev main_c_75 : Ref sig .tc := ⟨.hbm, 321, rfl⟩
abbrev main_v241 : Ref sig .tc := ⟨.hbm, 322, rfl⟩
abbrev main_v242 : Ref sig .tc := ⟨.hbm, 323, rfl⟩
abbrev main_c_76 : Ref sig .tc := ⟨.hbm, 324, rfl⟩
abbrev main_v243 : Ref sig .tc := ⟨.hbm, 325, rfl⟩
abbrev main_v244 : Ref sig .tc := ⟨.hbm, 326, rfl⟩
abbrev main_c_77 : Ref sig .tc := ⟨.hbm, 327, rfl⟩
abbrev main_v245 : Ref sig .tc := ⟨.hbm, 328, rfl⟩
abbrev main_v246 : Ref sig .tc := ⟨.hbm, 329, rfl⟩
abbrev main_c_78 : Ref sig .tc := ⟨.hbm, 330, rfl⟩
abbrev main_v247 : Ref sig .tc := ⟨.hbm, 331, rfl⟩
abbrev main_v248 : Ref sig .tc := ⟨.hbm, 332, rfl⟩
abbrev main_c_79 : Ref sig .tc := ⟨.hbm, 333, rfl⟩
abbrev main_v249 : Ref sig .tc := ⟨.hbm, 334, rfl⟩
abbrev main_v250 : Ref sig .tc := ⟨.hbm, 335, rfl⟩
abbrev main_c_80 : Ref sig .tc := ⟨.hbm, 336, rfl⟩
abbrev main_v251 : Ref sig .tc := ⟨.hbm, 337, rfl⟩
abbrev main_v252 : Ref sig .tc := ⟨.hbm, 338, rfl⟩
abbrev main_c_81 : Ref sig .tc := ⟨.hbm, 339, rfl⟩
abbrev main_v253 : Ref sig .tc := ⟨.hbm, 340, rfl⟩
abbrev main_v254 : Ref sig .tc := ⟨.hbm, 341, rfl⟩
abbrev main_c_82 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_cst_83 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_c_84 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_c_85 : Ref sig .tc := ⟨.hbm, 358, rfl⟩
abbrev main_v268 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_c_86 : Ref sig .tc := ⟨.hbm, 364, rfl⟩
abbrev main_v273 : Ref sig .tc := ⟨.hbm, 365, rfl⟩
abbrev main_v274 : Ref sig .tc := ⟨.hbm, 366, rfl⟩
abbrev main_c_87 : Ref sig .tc := ⟨.hbm, 367, rfl⟩
abbrev main_v275 : Ref sig .tc := ⟨.hbm, 368, rfl⟩
abbrev main_v276 : Ref sig .tc := ⟨.hbm, 369, rfl⟩
abbrev main_c_88 : Ref sig .tc := ⟨.hbm, 370, rfl⟩
abbrev main_v277 : Ref sig .tc := ⟨.hbm, 371, rfl⟩
abbrev main_v278 : Ref sig .tc := ⟨.hbm, 372, rfl⟩
abbrev main_c_89 : Ref sig .tc := ⟨.hbm, 373, rfl⟩
abbrev main_v279 : Ref sig .tc := ⟨.hbm, 374, rfl⟩
abbrev main_v280 : Ref sig .tc := ⟨.hbm, 375, rfl⟩
abbrev main_c_90 : Ref sig .tc := ⟨.hbm, 376, rfl⟩
abbrev main_v281 : Ref sig .tc := ⟨.hbm, 377, rfl⟩
abbrev main_v282 : Ref sig .tc := ⟨.hbm, 378, rfl⟩
abbrev main_c_91 : Ref sig .tc := ⟨.hbm, 379, rfl⟩
abbrev main_v283 : Ref sig .tc := ⟨.hbm, 380, rfl⟩
abbrev main_v284 : Ref sig .tc := ⟨.hbm, 381, rfl⟩
abbrev main_c_92 : Ref sig .tc := ⟨.hbm, 382, rfl⟩
abbrev main_v285 : Ref sig .tc := ⟨.hbm, 383, rfl⟩
abbrev main_v286 : Ref sig .tc := ⟨.hbm, 384, rfl⟩
abbrev main_c_93 : Ref sig .tc := ⟨.hbm, 385, rfl⟩
abbrev main_v287 : Ref sig .tc := ⟨.hbm, 386, rfl⟩
abbrev main_v288 : Ref sig .tc := ⟨.hbm, 387, rfl⟩
abbrev main_c_94 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_v294 : Ref sig .tc := ⟨.hbm, 394, rfl⟩
abbrev main_cst_95 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_c_96 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_c_97 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_c_98 : Ref sig .tc := ⟨.hbm, 410, rfl⟩
abbrev main_v307 : Ref sig .tc := ⟨.hbm, 411, rfl⟩
abbrev main_v308 : Ref sig .tc := ⟨.hbm, 412, rfl⟩
abbrev main_c_99 : Ref sig .tc := ⟨.hbm, 413, rfl⟩
abbrev main_v309 : Ref sig .tc := ⟨.hbm, 414, rfl⟩
abbrev main_v310 : Ref sig .tc := ⟨.hbm, 415, rfl⟩
abbrev main_c_100 : Ref sig .tc := ⟨.hbm, 416, rfl⟩
abbrev main_v311 : Ref sig .tc := ⟨.hbm, 417, rfl⟩
abbrev main_v312 : Ref sig .tc := ⟨.hbm, 418, rfl⟩
abbrev main_c_101 : Ref sig .tc := ⟨.hbm, 419, rfl⟩
abbrev main_v313 : Ref sig .tc := ⟨.hbm, 420, rfl⟩
abbrev main_v314 : Ref sig .tc := ⟨.hbm, 421, rfl⟩
abbrev main_c_102 : Ref sig .tc := ⟨.hbm, 422, rfl⟩
abbrev main_v315 : Ref sig .tc := ⟨.hbm, 423, rfl⟩
abbrev main_v316 : Ref sig .tc := ⟨.hbm, 424, rfl⟩
abbrev main_c_103 : Ref sig .tc := ⟨.hbm, 425, rfl⟩
abbrev main_v317 : Ref sig .tc := ⟨.hbm, 426, rfl⟩
abbrev main_v318 : Ref sig .tc := ⟨.hbm, 427, rfl⟩
abbrev main_c_104 : Ref sig .tc := ⟨.hbm, 428, rfl⟩
abbrev main_v319 : Ref sig .tc := ⟨.hbm, 429, rfl⟩
abbrev main_v320 : Ref sig .tc := ⟨.hbm, 430, rfl⟩
abbrev main_c_105 : Ref sig .tc := ⟨.hbm, 431, rfl⟩
abbrev main_v321 : Ref sig .tc := ⟨.hbm, 432, rfl⟩
abbrev main_v322 : Ref sig .tc := ⟨.hbm, 433, rfl⟩
abbrev main_c_106 : Ref sig .tc := ⟨.hbm, 434, rfl⟩
abbrev main_v323 : Ref sig .tc := ⟨.hbm, 435, rfl⟩
abbrev main_v324 : Ref sig .tc := ⟨.hbm, 436, rfl⟩
abbrev main_v325 : Ref sig .tc := ⟨.hbm, 437, rfl⟩
abbrev main_v326 : Ref sig .tc := ⟨.hbm, 438, rfl⟩
abbrev main_v327 : Ref sig .tc := ⟨.hbm, 439, rfl⟩
abbrev main_v328 : Ref sig .tc := ⟨.hbm, 440, rfl⟩
abbrev main_cst_107 : Ref sig .tc := ⟨.hbm, 441, rfl⟩
abbrev main_v329 : Ref sig .tc := ⟨.hbm, 442, rfl⟩
abbrev main_v330 : Ref sig .tc := ⟨.hbm, 443, rfl⟩
abbrev main_v331 : Ref sig .tc := ⟨.hbm, 444, rfl⟩
abbrev main_c_108 : Ref sig .tc := ⟨.hbm, 445, rfl⟩
abbrev main_v332 : Ref sig .tc := ⟨.hbm, 446, rfl⟩
abbrev main_v333 : Ref sig .tc := ⟨.hbm, 447, rfl⟩
abbrev main_v334 : Ref sig .tc := ⟨.hbm, 448, rfl⟩
abbrev main_v335 : Ref sig .tc := ⟨.hbm, 449, rfl⟩
abbrev main_c_109 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩

abbrev nD : Nat := 1
abbrev τ : Topo := Topo.v7x

variable {F : FTy → Type} [FloatOps F]
-- ==== Proof.Block.lean ====
module

public import proofs.«01_k».proof.Proof.Gen.KernelIdeal.Frame

@[expose] public section

set_option maxRecDepth 16384

noncomputable section

open Idealize.ShloMosaic Idealize.SL.Sem

/-! # What one block computes, chunk by chunk

The body is seven times the same chunk: it reads three planes of 128 bytes of each of the block's 512 rows, makes four
tables of values of 128 rows, and adds two products with 256 columns of the argument each. -/

namespace Cert.KernelIdeal.Block

open Cert.KernelIdeal Cert.KernelIdeal.Gen

variable {F : FTy → Type} [FloatOps F]

/-- A plane's bytes, transposed, four rows to a word. -/
def words (v : Vec F S1x512x128 .i8) : IVec S32x512 32 :=
  bitcast S32x512 32 (transpose S128x512 [1, 0] (shapeCast S512x128 v shapeCasts_S1x512x128_S512x128 : IVec S512x128 8)
    transposes_S512x128_p1_0_S128x512) bitcasts_S128x512_w8_S32x512_w32

/-- The first code of each byte position, in words: the low six bits of the first byte. -/
def field0 (a : Vec F S1x512x128 .i8) : IVec S32x512 32 := andi (words a) (broadcast S32x512 1061109567#32)
/-- The second code of each byte position, in words: the top two bits of the first byte, the low four of the second. -/
def field1 (a b : Vec F S1x512x128 .i8) : IVec S32x512 32 :=
  ori (andi (shrsi (words a) (broadcast S32x512 6#32)) (broadcast S32x512 50529027#32))
    (shli (andi (words b) (broadcast S32x512 252645135#32)) (broadcast S32x512 2#32))
/-- The third code of each byte position, in words: the top four bits of the second byte, the low two of the third. -/
def field2 (b c : Vec F S1x512x128 .i8) : IVec S32x512 32 :=
  ori (andi (shrsi (words b) (broadcast S32x512 4#32)) (broadcast S32x512 252645135#32))
    (shli (andi (words c) (broadcast S32x512 50529027#32)) (broadcast S32x512 4#32))
/-- The fourth code of each byte position, in words: the top six bits of the third byte. -/
def field3 (c : Vec F S1x512x128 .i8) : IVec S32x512 32 :=
  andi (shrsi (words c) (broadcast S32x512 2#32)) (broadcast S32x512 1061109567#32)

/-- A field's values: its codes' bits as eight-bit floats. -/
def values (w : IVec S32x512 32) : FVec F S128x512 .bf16 :=
  extf .bf16 (bitcastToFloat .fp8e5m2 (bitcast S128x512 8
    (andi (addi w (broadcast S32x512 1616928864#32)) (broadcast S32x512 2678038431#32))
    bitcasts_S32x512_w32_S128x512_w8)) bitsLt_fp8e5m2_bf16

/-- Two tables of 128 rows, one above the other, times 256 columns of the argument. -/
def prod (x : Vec F S96x256 .bf16) (p q : FVec F S128x512 .bf16) : FVec F S96x512 .f32 :=
  matmul dot_S96x256_S256x512_S96x512_1_0_0_1_n_n none (shapeCast S96x256 x shapeCasts_S96x256_S96x256 : FVec F S96x256 .bf16)
    (concatenate S256x512 0 [⟨S128x512, p⟩, ⟨S128x512, q⟩] concatenates_S128x512_S128x512_S256x512_d0)
    (constant S96x512 .f32 0x00000000#32)

/-- A chunk's first product, of fields 0 and 1. -/
def low (l : Vec F S96x256 .bf16) (a b : Vec F S1x512x128 .i8) : FVec F S96x512 .f32 :=
  prod l (values (field0 a)) (values (field1 a b))
/-- Its second, of fields 2 and 3. -/
def high (h : Vec F S96x256 .bf16) (b c : Vec F S1x512x128 .i8) : FVec F S96x512 .f32 :=
  prod h (values (field2 b c)) (values (field3 c))

/-- The first chunk. -/
def first (l h : Vec F S96x256 .bf16) (a b c : Vec F S1x512x128 .i8) : FVec F S96x512 .f32 :=
  addf (low l a b) (high h b c)
/-- A later chunk, added to those before it. -/
def step (acc : FVec F S96x512 .f32) (l h : Vec F S96x256 .bf16) (a b c : Vec F S1x512x128 .i8) : FVec F S96x512 .f32 :=
  addf (addf acc (low l a b)) (high h b c)
/-- The sum times 4096, times the rows' scales, rounded. -/
def finish (acc : FVec F S96x512 .f32) (s : Vec F S1x512 .f32) : FVec F S96x512 .bf16 :=
  truncf .bf16 (mulf (mulf acc (broadcast S96x512 (Scalar.ofBits .f32 0x45800000#32)))
    (broadcastTo S96x512 (shapeCast S1x512 s shapeCasts_S1x512_S1x512 : FVec F S1x512 .f32) broadcasts_S1x512_S96x512)) bitsLt_bf16_f32

/-- The body's stored value is its seven chunks, in order. -/
theorem pay_eq (a0 b0 c0 a1 b1 c1 a2 b2 c2 a3 b3 c3 a4 b4 c4 a5 b5 c5 a6 b6 c6 : Vec F S1x512x128 .i8)
    (l0 h0 l1 h1 l2 h2 l3 h3 l4 h4 l5 h5 l6 h6 : Vec F S96x256 .bf16) (s : Vec F S1x512 .f32) :
    k0_pay1 (k0_pay60 (F := F) (k0_pay55 b6) (k0_pay56 c6)) (k0_pay61 (F := F) (k0_pay56 c6)) (k0_pay62 (k0_pay53 (k0_pay44 (k0_pay36 (k0_pay27 (k0_pay17 (k0_pay9 (k0_pay5 a0 b0) (k0_pay6 b0 c0) (k0_pay7 c0) (k0_pay8 a0) l0 h0) (k0_pay13 c1) (k0_pay14 (F := F) (k0_pay10 a1)) (k0_pay15 (F := F) (k0_pay10 a1) (k0_pay11 b1)) (k0_pay16 (k0_pay11 b1) c1) 2678038431#32 l1 h1) (k0_pay24 (F := F) (k0_pay19 b2) (k0_pay20 c2)) (k0_pay25 (F := F) (k0_pay20 c2)) (k0_pay26 (F := F) (k0_pay19 b2) (k0_pay21 a2) (k0_pay22 a2) k0_pay23) l2 h2) (k0_pay30 c3) (k0_pay31 a3) (k0_pay32 a3 b3) (k0_pay33 b3) (k0_pay34 c3) k0_pay35 l3 h3) (k0_pay40 a4 b4) (k0_pay41 b4 c4) (k0_pay42 c4) (k0_pay43 a4) l4 h4) (k0_pay49 (k0_pay47 c5)) (k0_pay50 (F := F) (k0_pay45 a5)) (k0_pay51 (F := F) (k0_pay45 a5) (k0_pay46 b5)) (k0_pay52 (F := F) (k0_pay46 b5) (k0_pay47 c5)) l5 h5) (k0_pay57 a6) (k0_pay58 a6) (k0_pay59 b6) l6) h6 s
      = finish (step (step (step (step (step (step (first l0 h0 a0 b0 c0) l1 h1 a1 b1 c1) l2 h2 a2 b2 c2) l3 h3 a3 b3 c3) l4 h4 a4 b4 c4) l5 h5 a5 b5 c5) l6 h6 a6 b6 c6) s := by
  rfl

end Cert.KernelIdeal.Block
-- ==== Proof.Bytes.lean ====
module

public import Idealize.ShloMosaic.Lib.BitcastFour
public import Idealize.ShloMosaic.Lib.BitcastPair
public import Idealize.ShloMosaic.Lib.Pointwise

@[expose] public section

noncomputable section

open Idealize.ShloMosaic

/-! # Four bytes in one word

A word of 32 bits carries four rows' bytes. The field extraction works on whole words; these theorems say what it does to
each byte. -/

namespace Cert.Bytes

/-- Byte `k` of a word. -/
def byte (k : Nat) (w : BitVec 32) : BitVec 8 := w.extractLsb' (8 * k) 8

/-- The bits of byte `k` of a word. -/
theorem getLsbD_byte (k i : Nat) (w : BitVec 32) (hi : i < 8) : (byte k w).getLsbD i = w.getLsbD (8 * k + i) := by
  simp [byte, BitVec.getLsbD_extractLsb', hi]

/-- Field 0 of a group of three bytes: the low six bits of the first. -/
def code0 (b0 _b1 _b2 : BitVec 8) : BitVec 8 := b0 &&& 0x3F#8
/-- Field 1: the top two bits of the first byte and the low four of the second. -/
def code1 (b0 b1 _b2 : BitVec 8) : BitVec 8 := ((b0 >>> 6) &&& 3#8) ||| ((b1 &&& 0x0F#8) <<< 2)
/-- Field 2: the top four bits of the second byte and the low two of the third. -/
def code2 (_b0 b1 b2 : BitVec 8) : BitVec 8 := ((b1 >>> 4) &&& 0x0F#8) ||| ((b2 &&& 3#8) <<< 4)
/-- Field 3: the top six bits of the third byte. -/
def code3 (_b0 _b1 b2 : BitVec 8) : BitVec 8 := (b2 >>> 2) &&& 0x3F#8

/-- The first code of each byte, on whole words. -/
def word0 (w0 _w1 _w2 : BitVec 32) : BitVec 32 := IntOp.andi w0 1061109567#32
/-- The second code of each byte, on whole words. -/
def word1 (w0 w1 _w2 : BitVec 32) : BitVec 32 :=
  IntOp.ori (IntOp.andi (IntOp.shrsi .vector w0 6#32) 50529027#32)
    (IntOp.shli .vector (IntOp.andi w1 252645135#32) 2#32)
/-- The third code of each byte, on whole words. -/
def word2 (_w0 w1 w2 : BitVec 32) : BitVec 32 :=
  IntOp.ori (IntOp.andi (IntOp.shrsi .vector w1 4#32) 252645135#32)
    (IntOp.shli .vector (IntOp.andi w2 50529027#32) 4#32)
/-- The fourth code of each byte, on whole words. -/
def word3 (_w0 _w1 w2 : BitVec 32) : BitVec 32 := IntOp.andi (IntOp.shrsi .vector w2 2#32) 1061109567#32

/-- The shift of a code's word into an eight-bit float's word, four at a time. -/
def wordF8 (w : BitVec 32) : BitVec 32 := IntOp.andi (IntOp.addi w 1616928864#32) 2678038431#32
/-- The same of one byte. -/
def byteF8 (c : BitVec 8) : BitVec 8 := (c + 0x60#8) &&& 0x9F#8

/-- Shifting a word right and masking its bytes shifts each byte right and masks it, where the mask drops what comes in
    from the next byte. -/
theorem byte_shr_and (k s : Nat) (hk : k < 4) (x M : BitVec 32) (m : BitVec 8)
    (hM : ∀ i < 8, M.getLsbD (8 * k + i) = m.getLsbD i) (hm : ∀ i < 8, 8 ≤ s + i → m.getLsbD i = false) :
    byte k (x.sshiftRight s &&& M) = (byte k x >>> s) &&& m := by
  apply BitVec.eq_of_getLsbD_eq; intro i hi
  rw [getLsbD_byte _ _ _ hi, BitVec.getLsbD_and, BitVec.getLsbD_and, hM i hi]
  by_cases h : 8 ≤ s + i
  · rw [hm i hi h, Bool.and_false, Bool.and_false]
  · congr 1
    rw [BitVec.getLsbD_sshiftRight, BitVec.getLsbD_ushiftRight, getLsbD_byte _ _ _ (by omega)]
    have h1 : ¬ 32 ≤ 8 * k + i := by omega
    have h2 : s + (8 * k + i) < 32 := by omega
    have h3 : s + (8 * k + i) = 8 * k + (s + i) := by omega
    rw [h3] at h2 ⊢
    simp only [h1, h2, decide_false, Bool.not_false, Bool.true_and, if_true]

/-- Masking the bytes of a word and shifting it left does so to each byte, where the mask leaves nothing to cross into the
    next byte. -/
theorem byte_and_shl (k s : Nat) (hk : k < 4) (x M : BitVec 32) (m : BitVec 8)
    (hM : ∀ j < 4, ∀ i < 8, M.getLsbD (8 * j + i) = m.getLsbD i) (hs : s < 8)
    (hm : ∀ i < 8, 8 ≤ s + i → m.getLsbD i = false) :
    byte k ((x &&& M) <<< s) = (byte k x &&& m) <<< s := by
  apply BitVec.eq_of_getLsbD_eq; intro i hi
  rw [getLsbD_byte _ _ _ hi, BitVec.getLsbD_shiftLeft, BitVec.getLsbD_shiftLeft, BitVec.getLsbD_and, BitVec.getLsbD_and]
  have h0 : 8 * k + i < 32 := by omega
  by_cases h : i < s
  · simp only [h, hi, h0, decide_true, Bool.not_true, Bool.and_false, Bool.false_and, Bool.true_and]
    by_cases h' : 8 * k + i < s
    · simp [h']
    · have e : 8 * k + i - s = 8 * (k - 1) + (8 + i - s) := by omega
      rw [e, hM (k - 1) (by omega) _ (by omega), hm _ (by omega) (by omega)]
      simp
  · have e : 8 * k + i - s = 8 * k + (i - s) := by omega
    have h' : ¬ 8 * k + i < s := by omega
    rw [e, hM k hk _ (by omega), getLsbD_byte _ _ _ (by omega)]
    simp only [h, h', hi, h0]

/-- A byte of a bitwise or is the bitwise or of the bytes. -/
theorem byte_or (k : Nat) (x y : BitVec 32) : byte k (x ||| y) = byte k x ||| byte k y := by
  apply BitVec.eq_of_getLsbD_eq; intro i hi
  simp only [getLsbD_byte _ _ _ hi, BitVec.getLsbD_or]

/-- Every byte of the mask word is 0x3F. -/
theorem mask3F : ∀ k < 4, ∀ i < 8, (1061109567#32).getLsbD (8 * k + i) = (0x3F#8).getLsbD i := by decide
/-- Every byte of the mask word is 0x0F. -/
theorem mask0F : ∀ k < 4, ∀ i < 8, (252645135#32).getLsbD (8 * k + i) = (0x0F#8).getLsbD i := by decide
/-- Every byte of the mask word is 0x03. -/
theorem mask03 : ∀ k < 4, ∀ i < 8, (50529027#32).getLsbD (8 * k + i) = (3#8).getLsbD i := by decide
/-- Every byte of the mask word is 0x9F. -/
theorem mask9F : ∀ k < 4, ∀ i < 8, (2678038431#32).getLsbD (8 * k + i) = (0x9F#8).getLsbD i := by decide

/-- Masking a word by four equal bytes masks each byte. -/
theorem byte_and (k : Nat) (x M : BitVec 32) (m : BitVec 8)
    (hM : ∀ i < 8, M.getLsbD (8 * k + i) = m.getLsbD i) : byte k (x &&& M) = byte k x &&& m := by
  apply BitVec.eq_of_getLsbD_eq; intro i hi
  rw [getLsbD_byte _ _ _ hi, BitVec.getLsbD_and, BitVec.getLsbD_and, hM i hi, getLsbD_byte _ _ _ hi]

/-- Byte `k` of the first code's word is the first code of the words' bytes `k`. -/
theorem byte_word0 (k : Nat) (hk : k < 4) (a b c : BitVec 32) :
    byte k (word0 a b c) = code0 (byte k a) (byte k b) (byte k c) :=
  byte_and k _ _ _ (mask3F k hk)

/-- Byte `k` of the second code's word is the second code of the words' bytes `k`. -/
theorem byte_word1 (k : Nat) (hk : k < 4) (a b c : BitVec 32) :
    byte k (word1 a b c) = code1 (byte k a) (byte k b) (byte k c) :=
  (byte_or k _ _).trans (congrArg₂ _ (byte_shr_and k 6 hk _ _ _ (mask03 k hk) (by decide))
    (byte_and_shl k 2 hk _ _ _ mask0F (by decide) (by decide)))

/-- Byte `k` of the third code's word is the third code of the words' bytes `k`. -/
theorem byte_word2 (k : Nat) (hk : k < 4) (a b c : BitVec 32) :
    byte k (word2 a b c) = code2 (byte k a) (byte k b) (byte k c) :=
  (byte_or k _ _).trans (congrArg₂ _ (byte_shr_and k 4 hk _ _ _ (mask0F k hk) (by decide))
    (byte_and_shl k 4 hk _ _ _ mask03 (by decide) (by decide)))

/-- Byte `k` of the fourth code's word is the fourth code of the words' bytes `k`. -/
theorem byte_word3 (k : Nat) (hk : k < 4) (a b c : BitVec 32) :
    byte k (word3 a b c) = code3 (byte k a) (byte k b) (byte k c) :=
  byte_shr_and k 2 hk _ _ _ (mask3F k hk) (by decide)

/-- Every code is less than 64. -/
theorem code_lt (b0 b1 b2 : BitVec 8) : (code0 b0 b1 b2).toNat < 64 ∧ (code1 b0 b1 b2).toNat < 64
    ∧ (code2 b0 b1 b2).toNat < 64 ∧ (code3 b0 b1 b2).toNat < 64 := by
  have key : ∀ x : BitVec 8, x &&& 0x3F#8 = x → x.toNat < 64 := fun x h => by
    rw [← h, BitVec.toNat_and]; exact Nat.lt_of_le_of_lt Nat.and_le_right (by decide)
  refine ⟨key _ ?_, key _ ?_, key _ ?_, key _ ?_⟩ <;>
  · apply BitVec.eq_of_getLsbD_eq; intro i hi
    simp only [code0, code1, code2, code3, BitVec.getLsbD_and, BitVec.getLsbD_or]
    interval_cases i <;> simp [BitVec.getLsbD_ofNat]

/-- Byte `k` of a word, as a number. -/
theorem toNat_byte (k : Nat) (w : BitVec 32) : (byte k w).toNat = w.toNat / 2 ^ (8 * k) % 256 := by
  rw [byte, BitVec.extractLsb'_toNat, Nat.shiftRight_eq_div_pow]

/-- Adding 0x60 to each byte of a word whose bytes are less than 64 carries nothing from one byte into the next. -/
theorem add_bytes (n : Nat) (hn : n < 4294967296) (h0 : n % 256 < 64) (h1 : n / 256 % 256 < 64)
    (h2 : n / 65536 % 256 < 64) (h3 : n / 16777216 % 256 < 64) :
    (n + 1616928864) % 4294967296 % 256 = (n % 256 + 96) % 256
    ∧ (n + 1616928864) % 4294967296 / 256 % 256 = (n / 256 % 256 + 96) % 256
    ∧ (n + 1616928864) % 4294967296 / 65536 % 256 = (n / 65536 % 256 + 96) % 256
    ∧ (n + 1616928864) % 4294967296 / 16777216 % 256 = (n / 16777216 % 256 + 96) % 256 := by
  omega

/-- Adding `0x60` to each of four bytes below 64 carries nothing from one byte to the next. -/
theorem byte_add (k : Nat) (hk : k < 4) (w : BitVec 32) (hw : ∀ j < 4, (byte j w).toNat < 64) :
    byte k (w + 1616928864#32) = byte k w + 0x60#8 := by
  have h := add_bytes w.toNat w.isLt (by have := hw 0 (by omega); rw [toNat_byte] at this; simpa using this)
    (by have := hw 1 (by omega); rw [toNat_byte] at this; simpa using this)
    (by have := hw 2 (by omega); rw [toNat_byte] at this; simpa using this)
    (by have := hw 3 (by omega); rw [toNat_byte] at this; simpa using this)
  apply BitVec.eq_of_toNat_eq
  rw [toNat_byte, BitVec.toNat_add, BitVec.toNat_add, toNat_byte, BitVec.toNat_ofNat, BitVec.toNat_ofNat]
  have hc : k = 0 ∨ k = 1 ∨ k = 2 ∨ k = 3 := by omega
  rcases hc with rfl | rfl | rfl | rfl
  · simpa using h.1
  · simpa using h.2.1
  · simpa using h.2.2.1
  · simpa using h.2.2.2

/-- The float's words of four bytes below 64 are each byte's. -/
theorem byte_wordF8 (k : Nat) (hk : k < 4) (w : BitVec 32) (hw : ∀ j < 4, (byte j w).toNat < 64) :
    byte k (wordF8 w) = byteF8 (byte k w) :=
  (byte_and k _ _ _ (mask9F k hk)).trans (congrArg (· &&& 0x9F#8) (byte_add k hk w hw))

/-! ## The layout: rows `4r .. 4r+3` of a column of bytes are word `r` of that column -/

/-- The two spellings of an index of a matrix agree. -/
theorem ix2_eq {n0 n1 : Nat} (a : Fin n0) (b : Fin n1) : ix2 a b = ValueIdx.ix2 a b := by
  funext d; match d with | ⟨0, _⟩ => rfl | ⟨1, _⟩ => rfl

/-- Byte `k` of word `(a, l)` is the byte of row `4a + k`. -/
theorem byte_bitcast {R r n : Nat} (x : (⟨2, ![R, n]⟩ : Shape).Idx → BitVec 8)
    (h : (⟨2, ![R, n]⟩ : Shape).Bitcasts 8 ⟨2, ![r, n]⟩ 32) (a : Fin r) (l : Fin n) (k : Nat) (hk : k < 4) (p : Fin R)
    (hp : p.val = 4 * a.val + k) :
    byte k (bitcast ⟨2, ![r, n]⟩ 32 x h (ix2 a l)) = x (ix2 p l) := by
  rw [ix2_eq, ix2_eq]
  apply BitVec.eq_of_getLsbD_eq; intro i hi
  rw [getLsbD_byte _ _ _ hi, bitcast_8_32_getLsbD_ix2 x h a l (8 * k + i) (by omega) p (by omega)]
  congr 1; omega

/-- Row `p` of the bytes of a column of words is byte `p % 4` of word `p / 4`. -/
theorem bitcast_byte {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byte (p.val % 4) (x (ix2 a l)) := by
  rw [ix2_eq, ix2_eq]
  apply BitVec.eq_of_getLsbD_eq; intro i hi
  rw [getLsbD_byte _ _ _ hi, bitcast_getLsbD x h _ i hi (by decide)]
  have hrow : (⟨2, ![R, n]⟩ : Shape).row (ValueIdx.ix2 p l) = p.val := rfl
  have e : (p.val * 8 + i) % 32 = 8 * (p.val % 4) + i := by omega
  simp only [hrow, e]
  congr 2
  funext c
  apply Fin.ext
  fin_cases c
  · rw [h.srcIdx_row _ _ _ _ rfl]
    show (p.val * 8 + i) / 32 = a.val
    omega
  · rw [h.srcIdx_other _ _ _ _ (by show ¬ 1 + 2 = 2; omega)]
    rfl

end Cert.Bytes
-- ==== Proof.Decode.lean ====
module

public import proofs.«01_k».proof.Proof.Bytes
public import Idealize.ShloMosaic.Lib.IdealHost

@[expose] public section

noncomputable section

open Idealize.ShloMosaic Cert.Bytes

/-! # The value of a code

A code is six bits: a sign, three of exponent (bias 3), two of mantissa. The reference builds its value by the format's
definition; the kernel reads the code's bits as an eight-bit float with five exponent bits, which is that value over
4096. -/

namespace Cert.Decode

/-- The reference's small values: `mantissa / 16`. -/
def refSub (c : BitVec 32) : EReal := (((IntOp.andi c 3#32).toInt : ℝ) : EReal) * Ideal.ieee 8 23 0x3D800000#32

/-- The reference's sign bit of a code. -/
def refSign (c : BitVec 32) : BitVec 32 := IntOp.andi (IntOp.shrsi .host c 5#32) 1#32

/-- The reference's bits of a code with a nonzero exponent, read as a 16-bit float with eight exponent bits. -/
def refNorm (c : BitVec 32) : EReal :=
  Ideal.ieee 8 7 ((IntOp.ori (IntOp.shli .host (refSign c) 15#32)
    (IntOp.shli .host (IntOp.addi (IntOp.andi c 31#32) 496#32) 5#32)).setWidth 16)

/-- The reference's value of a code. -/
def refVal (c : BitVec 32) : EReal :=
  Scalar.select (IntOp.cmpi .eq (IntOp.andi (IntOp.shrsi .host c 2#32) 7#32) 0#32)
    (Scalar.select (IntOp.cmpi .eq (refSign c) 1#32) (-(refSub c)) (refSub c))
    (refNorm c)

/-- The kernel's value of a code: the code's bits with the exponent field moved, as an eight-bit float. -/
def kerVal (c : BitVec 8) : EReal := Ideal.ieee 5 2 (byteF8 c)

/-- The equation of the two decodings, for each of the 64 codes. -/
theorem kerVal_mul_aux (n : Nat) (hn : n < 64) :
    kerVal (BitVec.ofNat 8 n) * ((4096 : ℝ) : EReal) = refVal ((BitVec.ofNat 8 n).setWidth 32) := by
  interval_cases n <;>
  · simp [kerVal, refVal, refNorm, refSub, refSign, byteF8, IntOp.andi, IntOp.shrsi, IntOp.shli, IntOp.ori, IntOp.addi,
      IntOp.cmpi, Scalar.select, BitVec.sshiftRight', Ideal.ieee, -EReal.coe_mul, ← EReal.coe_mul]
    try norm_num

/-- The kernel's value of a code, times 4096, is the reference's. -/
theorem kerVal_mul (c : BitVec 8) (h : c.toNat < 64) : kerVal c * ((4096 : ℝ) : EReal) = refVal (c.setWidth 32) := by
  have e := kerVal_mul_aux c.toNat h
  rwa [BitVec.ofNat_toNat, BitVec.setWidth_eq] at e

/-! ## The reference's codes: those of the bytes, widened -/

/-- The reference's first code of three bytes, as a 32-bit number. -/
def refCode0 (b0 _b1 _b2 : BitVec 8) : BitVec 32 := IntOp.andi (b0.setWidth 32) 63#32
/-- The reference's second code of three bytes, as a 32-bit number. -/
def refCode1 (b0 b1 _b2 : BitVec 8) : BitVec 32 :=
  IntOp.ori (IntOp.shrsi .host (b0.setWidth 32) 6#32) (IntOp.shli .host (IntOp.andi (b1.setWidth 32) 15#32) 2#32)
/-- The reference's third code of three bytes, as a 32-bit number. -/
def refCode2 (_b0 b1 b2 : BitVec 8) : BitVec 32 :=
  IntOp.ori (IntOp.shrsi .host (b1.setWidth 32) 4#32) (IntOp.shli .host (IntOp.andi (b2.setWidth 32) 3#32) 4#32)
/-- The reference's fourth code of three bytes, as a 32-bit number. -/
def refCode3 (_b0 _b1 b2 : BitVec 8) : BitVec 32 := IntOp.shrsi .host (b2.setWidth 32) 2#32

/-- The reference's first code is the kernel's, widened. -/
theorem refCode0_eq (b0 b1 b2 : BitVec 8) : refCode0 b0 b1 b2 = (code0 b0 b1 b2).setWidth 32 := by
  apply BitVec.eq_of_getLsbD_eq; intro i hi
  simp only [refCode0, code0, IntOp.andi, BitVec.getLsbD_and, BitVec.getLsbD_setWidth]
  interval_cases i <;> simp [BitVec.getLsbD_ofNat]

/-- Shifting a widened byte right is widening the shifted byte. -/
theorem shr_setWidth (b : BitVec 8) (s : Nat) : (b.setWidth 32).sshiftRight s = (b >>> s).setWidth 32 := by
  rw [BitVec.sshiftRight_eq_of_msb_false (by simp [BitVec.msb_setWidth])]
  apply BitVec.eq_of_getLsbD_eq; intro i hi
  simp only [BitVec.getLsbD_ushiftRight, BitVec.getLsbD_setWidth]
  by_cases h : s + i < 32
  · simp [h, hi]
  · simp [h, hi, BitVec.getLsbD_of_ge b (s + i) (by omega)]

/-- Masking and shifting a widened byte left is widening the masked and shifted byte, where the mask leaves nothing to shift out. -/
theorem and_shl_setWidth (b m : BitVec 8) (s : Nat) (hm : ∀ i < 8, 8 ≤ s + i → m.getLsbD i = false) :
    ((b.setWidth 32 &&& m.setWidth 32) <<< s) = ((b &&& m) <<< s).setWidth 32 := by
  apply BitVec.eq_of_getLsbD_eq; intro i hi
  simp only [BitVec.getLsbD_shiftLeft, BitVec.getLsbD_and, BitVec.getLsbD_setWidth, hi, decide_true, Bool.true_and]
  by_cases h : i < s
  · simp [h]
  · have h2 : i - s < 32 := by omega
    simp only [h, h2, decide_false, decide_true, Bool.not_false, Bool.true_and]
    by_cases h8 : i < 8
    · simp [h8]
    · simp only [h8, decide_false, Bool.false_and]
      by_cases h' : i - s < 8
      · rw [hm _ h' (by omega), Bool.and_false]
      · rw [BitVec.getLsbD_of_ge b _ (by omega), Bool.false_and]

/-- A byte shifted right by six has two bits. -/
theorem shr6 (b : BitVec 8) : (b >>> 6) &&& 3#8 = b >>> 6 := by
  apply BitVec.eq_of_getLsbD_eq; intro i hi
  simp only [BitVec.getLsbD_and, BitVec.getLsbD_ushiftRight]
  interval_cases i <;> simp [BitVec.getLsbD_ofNat]
/-- A byte shifted right by four has four bits. -/
theorem shr4 (b : BitVec 8) : (b >>> 4) &&& 0x0F#8 = b >>> 4 := by
  apply BitVec.eq_of_getLsbD_eq; intro i hi
  simp only [BitVec.getLsbD_and, BitVec.getLsbD_ushiftRight]
  interval_cases i <;> simp [BitVec.getLsbD_ofNat]
/-- A byte shifted right by two has six bits. -/
theorem shr2 (b : BitVec 8) : (b >>> 2) &&& 0x3F#8 = b >>> 2 := by
  apply BitVec.eq_of_getLsbD_eq; intro i hi
  simp only [BitVec.getLsbD_and, BitVec.getLsbD_ushiftRight]
  interval_cases i <;> simp [BitVec.getLsbD_ofNat]

/-- The reference's second code is the kernel's, widened. -/
theorem refCode1_eq (b0 b1 b2 : BitVec 8) : refCode1 b0 b1 b2 = (code1 b0 b1 b2).setWidth 32 := by
  rw [code1, BitVec.setWidth_or, shr6, ← and_shl_setWidth _ _ _ (by decide), ← shr_setWidth]; rfl

/-- The reference's third code is the kernel's, widened. -/
theorem refCode2_eq (b0 b1 b2 : BitVec 8) : refCode2 b0 b1 b2 = (code2 b0 b1 b2).setWidth 32 := by
  rw [code2, BitVec.setWidth_or, shr4, ← and_shl_setWidth _ _ _ (by decide), ← shr_setWidth]; rfl

/-- The reference's fourth code is the kernel's, widened. -/
theorem refCode3_eq (b0 b1 b2 : BitVec 8) : refCode3 b0 b1 b2 = (code3 b0 b1 b2).setWidth 32 := by
  rw [code3, shr2, ← shr_setWidth]; rfl

/-! ## The four fields of a group of three bytes -/

/-- Field `f`'s code. -/
def code (f : Fin 4) (b0 b1 b2 : BitVec 8) : BitVec 8 := ![code0 b0 b1 b2, code1 b0 b1 b2, code2 b0 b1 b2, code3 b0 b1 b2] f

/-- The reference's code of field `f`. -/
def refCode (f : Fin 4) (b0 b1 b2 : BitVec 8) : BitVec 32 :=
  ![refCode0 b0 b1 b2, refCode1 b0 b1 b2, refCode2 b0 b1 b2, refCode3 b0 b1 b2] f

/-- The kernel's value of field `f` of three bytes, times 4096, is the reference's. -/
theorem field_mul (f : Fin 4) (b0 b1 b2 : BitVec 8) :
    kerVal (code f b0 b1 b2) * ((4096 : ℝ) : EReal) = refVal (refCode f b0 b1 b2) := by
  obtain ⟨h0, h1, h2, h3⟩ := code_lt b0 b1 b2
  fin_cases f
  · exact (kerVal_mul _ h0).trans (congrArg refVal (refCode0_eq b0 b1 b2).symm)
  · exact (kerVal_mul _ h1).trans (congrArg refVal (refCode1_eq b0 b1 b2).symm)
  · exact (kerVal_mul _ h2).trans (congrArg refVal (refCode2_eq b0 b1 b2).symm)
  · exact (kerVal_mul _ h3).trans (congrArg refVal (refCode3_eq b0 b1 b2).symm)

end Cert.Decode
-- ==== Proof.BlockRead.lean ====
module

public import proofs.«01_k».proof.Proof.Block
public import proofs.«01_k».proof.Proof.Decode
public import Idealize.ShloMosaic.Lib.Pointwise

@[expose] public section

set_option maxRecDepth 16384

noncomputable section

open Idealize.ShloMosaic Idealize.SL.Sem Cert.Bytes Cert.Decode

/-! # One block's result at an index, over the reals -/

namespace Cert.KernelIdeal.Block

open Cert.KernelIdeal Cert.KernelIdeal.Gen

/-- A plane's words hold its bytes: byte `k` of word `(r, n)` is the plane's byte `4r + k` of row `n`. -/
theorem byte_words (v : Vec Ideal S1x512x128 .i8) (r : Fin 32) (n : Fin 512) (k : Nat) (hk : k < 4) (l : Fin 128)
    (hl : l.val = 4 * r.val + k) : byte k (words v (ix2 r n)) = v (ix3 (0 : Fin 1) n l) := by
  rw [words, byte_bitcast _ _ r n k hk l hl]
  pointwise

/-- The values of words whose bytes are codes below 64. -/
theorem values_apply (w : IVec S32x512 32) (hw : ∀ r n, ∀ j < 4, (byte j (w (ix2 r n))).toNat < 64)
    (l : Fin 128) (n : Fin 512) (r : Fin 32) (hr : r.val = l.val / 4) :
    values (F := Ideal) w (ix2 l n) = kerVal (byte (l.val % 4) (w (ix2 r n))) := by
  show Ideal.ieee 5 2 (bitcast S128x512 8 (andi (addi w (broadcast S32x512 1616928864#32)) (broadcast S32x512 2678038431#32))
    bitcasts_S32x512_w32_S128x512_w8 (ix2 l n)) = _
  rw [bitcast_byte _ _ l n r hr, kerVal]
  exact congrArg (Ideal.ieee 5 2) (byte_wordF8 (l.val % 4) (Nat.mod_lt _ (by decide)) _ (hw r n))

/-- A field's value at row `l`, column `n`, from the three planes' bytes there. -/
theorem values_field (f : BitVec 8 → BitVec 8 → BitVec 8 → BitVec 8) (w : IVec S32x512 32)
    (a b c : Vec Ideal S1x512x128 .i8)
    (hb : ∀ k < 4, ∀ r n, byte k (w (ix2 r n))
      = f (byte k (words a (ix2 r n))) (byte k (words b (ix2 r n))) (byte k (words c (ix2 r n))))
    (hf : ∀ x y z, (f x y z).toNat < 64) (l : Fin 128) (n : Fin 512) :
    values (F := Ideal) w (ix2 l n)
      = kerVal (f (a (ix3 (0 : Fin 1) n l)) (b (ix3 (0 : Fin 1) n l)) (c (ix3 (0 : Fin 1) n l))) := by
  have hl : l.val % 4 < 4 := Nat.mod_lt _ (by decide)
  rw [values_apply w (fun r n j hj => by rw [hb j hj]; exact hf _ _ _) l n ⟨l.val / 4, by omega⟩ rfl, hb _ hl,
    byte_words a _ n _ hl l (by show l.val = 4 * (l.val / 4) + _; omega),
    byte_words b _ n _ hl l (by show l.val = 4 * (l.val / 4) + _; omega),
    byte_words c _ n _ hl l (by show l.val = 4 * (l.val / 4) + _; omega)]

/-- The first field's values at a group and a column: the first code of the three bytes stored there, read. -/
theorem values_field0 (a b c : Vec Ideal S1x512x128 .i8) (l : Fin 128) (n : Fin 512) :
    values (F := Ideal) (field0 a) (ix2 l n)
      = kerVal (code0 (a (ix3 (0 : Fin 1) n l)) (b (ix3 (0 : Fin 1) n l)) (c (ix3 (0 : Fin 1) n l))) :=
  values_field code0 _ a b c (fun k hk r n => byte_word0 k hk _ (words b (ix2 r n)) (words c (ix2 r n)))
    (fun x y z => (code_lt x y z).1) l n

/-- The second field's values at a group and a column: the second code of the three bytes stored there, read. -/
theorem values_field1 (a b c : Vec Ideal S1x512x128 .i8) (l : Fin 128) (n : Fin 512) :
    values (F := Ideal) (field1 a b) (ix2 l n)
      = kerVal (code1 (a (ix3 (0 : Fin 1) n l)) (b (ix3 (0 : Fin 1) n l)) (c (ix3 (0 : Fin 1) n l))) :=
  values_field code1 _ a b c (fun k hk r n => byte_word1 k hk _ _ (words c (ix2 r n)))
    (fun x y z => (code_lt x y z).2.1) l n

/-- The third field's values at a group and a column: the third code of the three bytes stored there, read. -/
theorem values_field2 (a b c : Vec Ideal S1x512x128 .i8) (l : Fin 128) (n : Fin 512) :
    values (F := Ideal) (field2 b c) (ix2 l n)
      = kerVal (code2 (a (ix3 (0 : Fin 1) n l)) (b (ix3 (0 : Fin 1) n l)) (c (ix3 (0 : Fin 1) n l))) :=
  values_field code2 _ a b c (fun k hk r n => byte_word2 k hk (words a (ix2 r n)) _ _)
    (fun x y z => (code_lt x y z).2.2.1) l n

/-- The fourth field's values at a group and a column: the fourth code of the three bytes stored there, read. -/
theorem values_field3 (a b c : Vec Ideal S1x512x128 .i8) (l : Fin 128) (n : Fin 512) :
    values (F := Ideal) (field3 c) (ix2 l n)
      = kerVal (code3 (a (ix3 (0 : Fin 1) n l)) (b (ix3 (0 : Fin 1) n l)) (c (ix3 (0 : Fin 1) n l))) :=
  values_field code3 _ a b c (fun k hk r n => byte_word3 k hk (words a (ix2 r n)) (words b (ix2 r n)) _)
    (fun x y z => (code_lt x y z).2.2.2) l n

/-- A product of 256 columns with two tables is the two tables' products of 128 columns each. -/
theorem prod_apply (x : FVec Ideal S96x256 .bf16) (p q : FVec Ideal S128x512 .bf16) (i : Fin 96) (n : Fin 512) :
    prod (F := Ideal) x p q (ix2 i n)
      = (∑ l : Fin 128, x (ix2 i ⟨l.val, by omega⟩) * p (ix2 l n))
        + ∑ l : Fin 128, x (ix2 i ⟨128 + l.val, by omega⟩) * q (ix2 l n) := by
  pointwise [prod]

/-- The last step at an index: the accumulated sum times 4096 times the column's scale. -/
theorem finish_apply (acc : FVec Ideal S96x512 .f32) (s : FVec Ideal S1x512 .f32) (i : Fin 96) (n : Fin 512) :
    finish (F := Ideal) acc s (ix2 i n) = acc (ix2 i n) * ((4096 : ℝ) : EReal) * s (ix2 (0 : Fin 1) n) := by
  have e : Ideal.ofBits .f32 0x45800000#32 = ((4096 : ℝ) : EReal) := by
    simp [Ideal.ofBits, Ideal.ieee, -EReal.coe_mul]; norm_num
  pointwise [finish]
  rw [← e]

end Cert.KernelIdeal.Block
-- ==== Proof.BlockSum.lean ====
module

public import proofs.«01_k».proof.Proof.BlockRead
public import Idealize.ShloMosaic.Lib.Pipeline.ValueKit

@[expose] public section

set_option maxRecDepth 16384

noncomputable section

open Idealize.ShloMosaic Idealize.SL.Sem Cert.Bytes Cert.Decode

/-! # One block's result at an index: a sum over chunks, fields and groups -/

namespace Cert.KernelIdeal.Block

open Cert.KernelIdeal Cert.KernelIdeal.Gen

/-- One chunk's share of an entry: over four fields and 128 groups, the argument's entry times the field's value. -/
def chunkSum (X : Fin 4 → Fin 128 → EReal) (B : Fin 3 → Fin 128 → BitVec 8) : EReal :=
  ∑ f : Fin 4, ∑ l : Fin 128, X f l * kerVal (code f (B 0 l) (B 1 l) (B 2 l))

/-- The two products of a chunk, added at an index: the chunk's sum over the four fields and the 128 groups. -/
theorem chunk_apply (lo hi : FVec Ideal S96x256 .bf16) (a b c : Vec Ideal S1x512x128 .i8) (i : Fin 96) (n : Fin 512)
    (X : Fin 4 → Fin 128 → EReal) (B : Fin 3 → Fin 128 → BitVec 8)
    (h0 : ∀ l : Fin 128, lo (ix2 i ⟨l.val, by omega⟩) = X 0 l)
    (h1 : ∀ l : Fin 128, lo (ix2 i ⟨128 + l.val, by omega⟩) = X 1 l)
    (h2 : ∀ l : Fin 128, hi (ix2 i ⟨l.val, by omega⟩) = X 2 l)
    (h3 : ∀ l : Fin 128, hi (ix2 i ⟨128 + l.val, by omega⟩) = X 3 l)
    (ha : ∀ l : Fin 128, a (ix3 (0 : Fin 1) n l) = B 0 l) (hb : ∀ l : Fin 128, b (ix3 (0 : Fin 1) n l) = B 1 l)
    (hc : ∀ l : Fin 128, c (ix3 (0 : Fin 1) n l) = B 2 l) :
    low (F := Ideal) lo a b (ix2 i n) + high (F := Ideal) hi b c (ix2 i n) = chunkSum X B := by
  rw [low, high, prod_apply, prod_apply, chunkSum, Fin.sum_univ_four, ← add_assoc]
  refine congrArg₂ (· + ·) (congrArg₂ (· + ·) (congrArg₂ (· + ·) ?_ ?_) ?_) ?_ <;>
    refine Finset.sum_congr rfl fun l _ => ?_
  · rw [values_field0 a b c, h0, ha, hb, hc]; rfl
  · rw [values_field1 a b c, h1, ha, hb, hc]; rfl
  · rw [values_field2 a b c, h2, ha, hb, hc]; rfl
  · rw [values_field3 a b c, h3, ha, hb, hc]; rfl

/-- The first chunk's step at an index. -/
theorem first_apply (lo hi : FVec Ideal S96x256 .bf16) (a b c : Vec Ideal S1x512x128 .i8) (i : Fin 96) (n : Fin 512) :
    first (F := Ideal) lo hi a b c (ix2 i n)
      = low (F := Ideal) lo a b (ix2 i n) + high (F := Ideal) hi b c (ix2 i n) := rfl

/-- A later chunk's step at an index: the chunk's sum added to what was accumulated. -/
theorem step_apply (acc : FVec Ideal S96x512 .f32) (lo hi : FVec Ideal S96x256 .bf16) (a b c : Vec Ideal S1x512x128 .i8)
    (i : Fin 96) (n : Fin 512) :
    step (F := Ideal) acc lo hi a b c (ix2 i n)
      = acc (ix2 i n) + (low (F := Ideal) lo a b (ix2 i n) + high (F := Ideal) hi b c (ix2 i n)) :=
  add_assoc (G := EReal) _ _ _

/-- The column of the argument that chunk `ch`, field `f`, lane `l` reads. -/
def col (ch : Fin 7) (f : Fin 4) (l : Fin 128) : Fin 3584 := ⟨ch.val * 512 + f.val * 128 + l.val, by omega⟩
/-- The group of three bytes that chunk `ch`, lane `l` reads. -/
def grp (ch : Fin 7) (l : Fin 128) : Fin 896 := ⟨ch.val * 128 + l.val, by omega⟩

/-- What the body leaves at entry `(i, n)` of its block. -/
def entry (x0 : Vec Ideal S96x3584 .bf16) (x1 : Vec Ideal S3x512x896 .i8) (x2 : Vec Ideal S1x512 .f32) (i : Fin 96)
    (n : Fin 512) : EReal :=
  (∑ ch : Fin 7, chunkSum (fun f l => x0 (ix2 i (col ch f l))) (fun p l => x1 (ix3 p n (grp ch l))))
    * ((4096 : ℝ) : EReal) * (show EReal from x2 (ix2 (0 : Fin 1) n))

/-- The zero offset, spelt out, is the zero function. -/
theorem hz : (![0, 0] : Fin 2 → Nat) = fun _ => 0 := funext fun a => by fin_cases a <;> rfl

/-- The block's result at an index. -/
theorem out_apply (x0 : Vec Ideal S96x3584 .bf16) (x1 : Vec Ideal S3x512x896 .i8) (x2 : Vec Ideal S1x512 .f32) (i : Fin 96)
    (n : Fin 512) : out0_3 (F := Ideal) x0 x1 x2 (ix2 i n) = entry x0 x1 x2 i n := by
  unfold_out out0_3
  rw [View.canon_unit_zero hz, pay_eq, finish_apply, entry, View.ld_unit_zero hz, Fin.sum_univ_seven]
  refine congrArg (fun e : EReal => e * ((4096 : ℝ) : EReal) * (show EReal from x2 (ix2 (0 : Fin 1) n))) ?_
  rw [step_apply, step_apply, step_apply, step_apply, step_apply, step_apply, first_apply]
  refine congrArg₂ (· + ·) (congrArg₂ (· + ·) (congrArg₂ (· + ·) (congrArg₂ (· + ·) (congrArg₂ (· + ·)
    (congrArg₂ (· + ·) ?_ ?_) ?_) ?_) ?_) ?_) ?_ <;>
  · refine chunk_apply _ _ _ _ _ i n _ _ ?_ ?_ ?_ ?_ ?_ ?_ ?_ <;> intro l
    · refine congrArg x0 (funext fun d => Fin.ext ?_)
      match d with
      | ⟨0, _⟩ => simp
      | ⟨1, _⟩ => simp [col] <;> omega
    · refine congrArg x0 (funext fun d => Fin.ext ?_)
      match d with
      | ⟨0, _⟩ => simp
      | ⟨1, _⟩ => simp [col] <;> omega
    · refine congrArg x0 (funext fun d => Fin.ext ?_)
      match d with
      | ⟨0, _⟩ => simp
      | ⟨1, _⟩ => simp [col] <;> omega
    · refine congrArg x0 (funext fun d => Fin.ext ?_)
      match d with
      | ⟨0, _⟩ => simp
      | ⟨1, _⟩ => simp [col] <;> omega
    · refine congrArg x1 (funext fun d => Fin.ext ?_)
      match d with
      | ⟨0, _⟩ => simp
      | ⟨1, _⟩ => simp
      | ⟨2, _⟩ => simp [grp]
    · refine congrArg x1 (funext fun d => Fin.ext ?_)
      match d with
      | ⟨0, _⟩ => simp
      | ⟨1, _⟩ => simp
      | ⟨2, _⟩ => simp [grp]
    · refine congrArg x1 (funext fun d => Fin.ext ?_)
      match d with
      | ⟨0, _⟩ => simp
      | ⟨1, _⟩ => simp
      | ⟨2, _⟩ => simp [grp]

end Cert.KernelIdeal.Block
-- ==== Proof.Array.lean ====
module

public import proofs.«01_k».proof.Proof.BlockSum
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Bytes Cert.Decode

/-! # What the result array holds -/

namespace Cert.KernelIdeal.Array

open Cert.KernelIdeal Cert.KernelIdeal.Gen Cert.KernelIdeal.Block

variable (m : (ℓ : Loc nD τ sig) → Buf (Elt Ideal) ℓ) (ρ : Dev nD → PrngReg)

/-- The windows' block indices: the weight's, the scale's and the result's blocks move along the output columns. -/
theorem idx : ∀ t : Fin cfg0.N, win0_0.index t = ![0, 0] ∧ win0_1.index t = ![0, t.val, 0]
    ∧ win0_2.index t = ![0, t.val] ∧ win0_3.index t = ![0, t.val] ∧ t.val < 37 :=
  (by decide +kernel : ∀ t : Fin grid0.N, _)

/-- Entry `(i, n)` of the result, from the three arrays the blocks are cut from. -/
def arrEntry (X : FVec Ideal S96x3584 .bf16) (W : IVec S3x18944x896 8) (S : FVec Ideal S1x18944 .f32) (i : Fin 96)
    (n : Fin 18944) : EReal :=
  (∑ ch : Fin 7, chunkSum (fun f l => X (ix2 i (col ch f l))) (fun p l => W (ix3 p n (grp ch l))))
    * ((4096 : ℝ) : EReal) * S (ix2 (0 : Fin 1) n)

/-- The result array after the run. -/
theorem final (c : Dev nD) : (dats m 0 c).arrAt 3 (cfgs 0).N
    = fun j : S96x18944.Idx => arrEntry (V m c main_v3) (V m c main_v0) (V m c main_v4) (j 0) (j 1) := by
  refine (dats m 0 c).arrAt_eq_of_covers 3 _ (by decide +kernel) fun t _ y => ?_
  blk_simp
  rw [after0_3]
  idx_vars y
  refine (out_apply _ _ _ y0 y1).trans ?_
  unfold entry arrEntry
  refine congrArg₂ (fun a b : EReal => a * ((4096 : ℝ) : EReal) * b) (Finset.sum_congr rfl fun ch _ => ?_) ?_
  · refine congrArg₂ chunkSum (funext fun f => funext fun l => ?_) (funext fun p => funext fun l => ?_)
    · blk_ext [iblk, idx t]
    · blk_ext [iblk, idx t]
  · blk_ext [iblk, idx t]

end Cert.KernelIdeal.Array
-- ==== Proof.Value.lean ====
module

public import proofs.«01_k».proof.Proof.Array

@[expose] public section

set_option maxRecDepth 16384

noncomputable section

open Idealize.ShloMosaic Idealize.ShloMosaic.TcCoe Idealize.SL.Sem
open Idealize.ShloMosaic.Pipeline (Dat)
open Cert.Bytes Cert.Decode

/-! # The kernel's result, over its arguments -/

namespace Cert.KernelIdeal.Array

open Cert.KernelIdeal Cert.KernelIdeal.Gen Cert.KernelIdeal.Block

variable (m : (ℓ : Loc nD τ sig) → Buf (Elt Ideal) ℓ) (ρ : Dev nD → PrngReg)

/-- The argument's column that group `ch * 128 + l` meets in field `f`. -/
def argCol (ch : Fin 7) (f : Fin 4) (l : Fin 128) : Fin 3584 := ⟨(grp ch l).val * 4 + f.val, by have := (grp ch l).isLt; omega⟩

/-- Entry `(i, n)` of the kernel's result, over its arguments: over chunks, fields and lanes, the argument's entry times the
    field's value, the whole times 4096 and the scale. -/
def kernelEntry (x : FVec Ideal S96x1x3584 .bf16) (w : IVec S18944x896x3 8) (s : FVec Ideal S18944 .f32) (i : Fin 96)
    (n : Fin 18944) : EReal :=
  (∑ ch : Fin 7, chunkSum (fun f l => x (ix3 i (0 : Fin 1) (argCol ch f l))) (fun p l => w (ix3 n (grp ch l) p)))
    * ((4096 : ℝ) : EReal) * s (ix1 n)

/-- The weights' three byte planes, over the argument. -/
theorem V_v0 (c : Dev nD) : V m c main_v0
    = transpose S3x18944x896 [2, 0, 1] (m ((c : Thread nD τ).loc main_arg1)) transposes_S18944x896x3_S3x18944x896_2_0_1 := by
  rfl
/-- The rearranged activations, over the argument. -/
theorem V_v3 (c : Dev nD) : V m c main_v3
    = shapeCast S96x3584 (transpose S96x7x4x128 [0, 1, 3, 2]
        (shapeCast S96x7x128x4 (m ((c : Thread nD τ).loc main_arg0)) shapeCasts_S96x1x3584_S96x7x128x4)
        transposes_S96x7x128x4_S96x7x4x128_0_1_3_2) shapeCasts_S96x7x4x128_S96x3584 := by
  rfl
/-- The scales as a row, over the argument. -/
theorem V_v4 (c : Dev nD) : V m c main_v4
    = shapeCast S1x18944 (m ((c : Thread nD τ).loc main_arg2)) shapeCasts_S18944_S1x18944 := by
  rfl

/-- The argument rearranged, at a chunk, a field and a lane. -/
theorem arranged (x : FVec Ideal S96x1x3584 .bf16) (i : Fin 96) (ch : Fin 7) (f : Fin 4) (l : Fin 128) :
    shapeCast S96x3584 (transpose S96x7x4x128 [0, 1, 3, 2]
        (shapeCast S96x7x128x4 x shapeCasts_S96x1x3584_S96x7x128x4)
        transposes_S96x7x128x4_S96x7x4x128_0_1_3_2) shapeCasts_S96x7x4x128_S96x3584 (ix2 i (col ch f l))
      = x (ix3 i (0 : Fin 1) (argCol ch f l)) := by
  generalize hk : col ch f l = k
  pointwise
  refine congrArg x (congrArg (ix3 i (0 : Fin 1)) (Fin.ext ?_))
  subst hk
  show (ch.val * 512 + f.val * 128 + l.val) / 512 * 512 + (ch.val * 512 + f.val * 128 + l.val) % 128 * 4
    + (ch.val * 512 + f.val * 128 + l.val) / 128 % 4 = (ch.val * 128 + l.val) * 4 + f.val
  omega

/-- The weight's planes: the bytes' axis first. -/
theorem planes (w : IVec S18944x896x3 8) (p : Fin 3) (n : Fin 18944) (g : Fin 896) :
    transpose S3x18944x896 [2, 0, 1] w transposes_S18944x896x3_S3x18944x896_2_0_1 (ix3 p n g) = w (ix3 n g p) := by
  pointwise

/-- The scales as one row. -/
theorem row (s : FVec Ideal S18944 .f32) (n : Fin 18944) :
    shapeCast S1x18944 s shapeCasts_S18944_S1x18944 (ix2 (0 : Fin 1) n) = s (ix1 n) := by
  pointwise

/-- An entry, over the arguments. -/
theorem arrEntry_args (c : Dev nD) (i : Fin 96) (n : Fin 18944) :
    arrEntry (V m c main_v3) (V m c main_v0) (V m c main_v4) i n
      = kernelEntry (m ((c : Thread nD τ).loc main_arg0)) (m ((c : Thread nD τ).loc main_arg1)) (m ((c : Thread nD τ).loc main_arg2)) i n := by
  rw [V_v0, V_v3, V_v4]
  unfold arrEntry kernelEntry
  refine congrArg₂ (fun a b : EReal => a * ((4096 : ℝ) : EReal) * b) (Finset.sum_congr rfl fun ch _ => ?_) ?_
  · refine congrArg₂ chunkSum (funext fun f => funext fun l => ?_) (funext fun p => funext fun l => ?_)
    · exact arranged _ i ch f l
    · exact planes _ p n _
  · exact row _ n

/-- The result array at entry `(i, n)`. -/
def result (x : FVec Ideal S96x1x3584 .bf16) (w : IVec S18944x896x3 8) (s : FVec Ideal S18944 .f32) :
    FVec Ideal S96x1x18944 .bf16 := fun j => kernelEntry x w s (j 0) (j 2)

/-- The host line after the region only reshapes the result array. -/
theorem tail (c : Dev nD) : Pipeline.afterTail₀ cfgs (dats m) 0 (V0 m) [hostOps1] c main_v6
    = shapeCast S96x1x18944 ((dats m 0 c).arrAt 3 (cfgs 0).N : FVec Ideal S96x18944 .bf16) shapeCasts_S96x18944_S96x1x18944 := by
  unfold Pipeline.afterTail₀
  show shapeCast S96x1x18944 (Pipeline.withArrays (cfgs 0).spec c (V0 m c) (fun w => (dats m 0 c).arrAt w (cfgs 0).N)
    (Proc.devRef .tc main_v5)) shapeCasts_S96x18944_S96x1x18944 = _
  exact congrArg (shapeCast S96x1x18944 · shapeCasts_S96x18944_S96x1x18944)
    (Pipeline.withArrays_arr spec0 launch0.win.arr_inj c (V0 m c) (fun w => (dats m 0 c).arrAt w (cfgs 0).N) 3)

/-- The kernel's result is `result` of its arguments. -/
theorem tail_eq (c : Dev nD) : Pipeline.afterTail₀ cfgs (dats m) 0 (V0 m) [hostOps1] c main_v6
    = result (m ((c : Thread nD τ).loc main_arg0)) (m ((c : Thread nD τ).loc main_arg1)) (m ((c : Thread nD τ).loc main_arg2)) := by
  rw [tail, final]
  have key : ∀ y : FVec Ideal S96x18944 .bf16, ∀ (a : Fin 96) (b : Fin 1) (n : Fin 18944),
      shapeCast S96x1x18944 y shapeCasts_S96x18944_S96x1x18944 (ix3 a b n) = y (ix2 a n) := fun y a b n => by pointwise
  funext j
  have ej : j = ix3 (j 0) (j 1) (j 2) := by funext d; match d with | ⟨0, _⟩ => rfl | ⟨1, _⟩ => rfl | ⟨2, _⟩ => rfl
  refine (congrArg (shapeCast S96x1x18944 _ shapeCasts_S96x18944_S96x1x18944) ej).trans ((key _ _ _ _).trans ?_)
  exact arrEntry_args m c (j 0) (j 2)

/-- The kernel's run: its result is `result` of its arguments, which end as they were. -/
theorem run : θ_run defs (onTc (τ := τ) (main (F := Ideal))) ⟨m, fun _ => 0, ρ⟩ fun r => ∀ c : Dev nD,
      r.2.mem ((c : Thread nD τ).loc main_v6)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Array
-- ==== Proof.RefRead.lean ====
module

public import proofs.«01_k».proof.Proof.Gen.ReferenceIdeal.Run
public import proofs.«01_k».proof.Proof.Decode
public import Idealize.ShloMosaic.Lib.Pointwise

@[expose] public section

set_option maxRecDepth 16384

noncomputable section

open Idealize.ShloMosaic Idealize.ShloMosaic.TcCoe Idealize.SL.Sem
open Cert.Bytes Cert.Decode

/-! # The reference's result at an index, over its arguments -/

namespace Cert.ReferenceIdeal.Read

open Cert.ReferenceIdeal Cert.ReferenceIdeal.Gen Cert.ReferenceIdeal.Value

/-- A word everywhere. -/
def splat (v : BitVec 32) : IVec S9472x896 32 := broadcastInDim S9472x896 ![] bcast_S_S9472x896 (constantI S_ 32 v)

/-- Codes decoded to their values, as the reference writes it. -/
def decode (c : IVec S9472x896 32) : FVec Ideal S9472x896 .bf16 :=
  select (cmpi .eq (andi (Host.shrsi c (splat 2#32)) (splat 7#32)) (splat 0#32))
    (select (cmpi .eq (andi (Host.shrsi c (splat 5#32)) (splat 1#32)) (splat 1#32))
      (Host.negf (truncf .bf16 (mulf (sitofp .f32 (andi c (splat 3#32))) (broadcastInDim S9472x896 ![] bcast_S_S9472x896 (constant (F := Ideal) S_ .f32 0x3D800000#32))) bitsLt_bf16_f32))
      (truncf .bf16 (mulf (sitofp .f32 (andi c (splat 3#32))) (broadcastInDim S9472x896 ![] bcast_S_S9472x896 (constant (F := Ideal) S_ .f32 0x3D800000#32))) bitsLt_bf16_f32))
    (bitcastToFloat (F := Ideal) .bf16 (trunci 16 (ori (Host.shli (andi (Host.shrsi c (splat 5#32)) (splat 1#32)) (splat 15#32))
      (Host.shli (addi (andi c (splat 31#32)) (splat 496#32)) (splat 5#32))) natLt_16_32))

/-- One of the four products. -/
def dot (x : FVec Ideal S96x896 .bf16) (c : IVec S9472x896 32) : FVec Ideal S96x9472 .f32 :=
  Host.dotGeneral dot_S96x896_S9472x896_S96x9472_1_1_0_0_n_n none x (decode c)

/-- Half of the output columns. -/
def half (x0 x1 x2 x3 : FVec Ideal S96x896 .bf16) (c0 c1 c2 c3 : IVec S9472x896 32) (s : FVec Ideal S9472 .f32) :
    FVec Ideal S96x9472 .bf16 :=
  truncf .bf16 (mulf (addf (addf (addf (dot x0 c0) (dot x1 c1)) (dot x2 c2)) (dot x3 c3))
    (broadcastInDim S96x9472 ![0, 1] bcast_S1x9472_S96x9472_0_1 (broadcastInDim S1x9472 ![1] bcast_S9472_S1x9472_1 s))) bitsLt_bf16_f32

/-- The decoded value at an index is that of the code there. -/
theorem decode_apply (c : IVec S9472x896 32) (n : Fin 9472) (g : Fin 896) :
    decode c (ix2 n g) = refVal (c (ix2 n g)) := rfl

/-- A product at an index: the sum over the groups of activation times decoded weight. -/
theorem dot_apply (x : FVec Ideal S96x896 .bf16) (c : IVec S9472x896 32) (i : Fin 96) (n : Fin 9472) :
    dot x c (ix2 i n) = ∑ g : Fin 896, x (ix2 i g) * refVal (c (ix2 n g)) := by
  have e : dot x c (ix2 i n) = ∑ g : Fin 896, x (ix2 i g) * decode c (ix2 n g) := by pointwise [dot]
  rw [e]
  exact Finset.sum_congr rfl fun g _ => by rw [decode_apply]

/-- Half of the output at an index: the four products, added, times the scale. -/
theorem half_apply (x0 x1 x2 x3 : FVec Ideal S96x896 .bf16) (c0 c1 c2 c3 : IVec S9472x896 32) (s : FVec Ideal S9472 .f32)
    (i : Fin 96) (n : Fin 9472) :
    half x0 x1 x2 x3 c0 c1 c2 c3 s (ix2 i n)
      = (dot x0 c0 (ix2 i n) + dot x1 c1 (ix2 i n) + dot x2 c2 (ix2 i n) + dot x3 c3 (ix2 i n)) * s (ix1 n) := by
  pointwise [half]

/-- The first half of the output is `half` of its codes and scales. -/
theorem v176_eq (V0 : Valuation τ sig (Elt Ideal)) : res_main_v176 V0
    = half (res_main_v2 V0) (res_main_v4 V0) (res_main_v6 V0) (res_main_v8 V0)
        (res_main_v21 V0) (res_main_v28 V0) (res_main_v35 V0) (res_main_v37 V0)
        (extractStridedSlice S9472 ![0] (V0 (Proc.devRef .tc main_arg2)) slices_S18944_S9472_0) := rfl

/-- The second half of the output is `half` of its codes and scales. -/
theorem v344_eq (V0 : Valuation τ sig (Elt Ideal)) : res_main_v344 V0
    = half (res_main_v2 V0) (res_main_v4 V0) (res_main_v6 V0) (res_main_v8 V0)
        (res_main_v189 V0) (res_main_v196 V0) (res_main_v203 V0) (res_main_v205 V0)
        (extractStridedSlice S9472 ![9472] (V0 (Proc.devRef .tc main_arg2)) slices_S18944_S9472_9472) := rfl

/-- The argument's field `f` of group `g`. -/
def argAt (x : FVec Ideal S96x1x3584 .bf16) (i : Fin 96) (g : Fin 896) (f : Fin 4) : EReal :=
  x (ix3 i (0 : Fin 1) (⟨g.val * 4 + f.val, by omega⟩ : Fin 3584))

/-- The activations' four fields at a row and a group. -/
theorem field_read (x : FVec Ideal S96x1x3584 .bf16) (i : Fin 96) (g : Fin 896) :
    (shapeCast S96x896 (extractStridedSlice S96x896x1 ![0, 0, 0] (shapeCast S96x896x4 x shapeCasts_S96x1x3584_S96x896x4)
        slices_S96x896x4_S96x896x1_0_0_0) shapeCasts_S96x896x1_S96x896 (ix2 i g) = argAt x i g 0)
    ∧ (shapeCast S96x896 (extractStridedSlice S96x896x1 ![0, 0, 1] (shapeCast S96x896x4 x shapeCasts_S96x1x3584_S96x896x4)
        slices_S96x896x4_S96x896x1_0_0_1) shapeCasts_S96x896x1_S96x896 (ix2 i g) = argAt x i g 1)
    ∧ (shapeCast S96x896 (extractStridedSlice S96x896x1 ![0, 0, 2] (shapeCast S96x896x4 x shapeCasts_S96x1x3584_S96x896x4)
        slices_S96x896x4_S96x896x1_0_0_2) shapeCasts_S96x896x1_S96x896 (ix2 i g) = argAt x i g 2)
    ∧ (shapeCast S96x896 (extractStridedSlice S96x896x1 ![0, 0, 3] (shapeCast S96x896x4 x shapeCasts_S96x1x3584_S96x896x4)
        slices_S96x896x4_S96x896x1_0_0_3) shapeCasts_S96x896x1_S96x896 (ix2 i g) = argAt x i g 3) := by
  refine ⟨?_, ?_, ?_, ?_⟩ <;> pointwise [argAt]

/-- A byte of the first half's weights, widened. -/
theorem byte_read0 (w : IVec S18944x896x3 8) (n : Fin 9472) (g : Fin 896) :
    (extui 32 (shapeCast S9472x896 (extractStridedSlice S9472x896x1 ![0, 0, 0] (extractStridedSlice S9472x896x3 ![0, 0, 0] w
        slices_S18944x896x3_S9472x896x3_0_0_0) slices_S9472x896x3_S9472x896x1_0_0_0) shapeCasts_S9472x896x1_S9472x896) natLt_8_32
        (ix2 n g) = (w (ix3 (⟨n.val, by omega⟩ : Fin 18944) g (0 : Fin 3))).setWidth 32)
    ∧ (extui 32 (shapeCast S9472x896 (extractStridedSlice S9472x896x1 ![0, 0, 1] (extractStridedSlice S9472x896x3 ![0, 0, 0] w
        slices_S18944x896x3_S9472x896x3_0_0_0) slices_S9472x896x3_S9472x896x1_0_0_1) shapeCasts_S9472x896x1_S9472x896) natLt_8_32
        (ix2 n g) = (w (ix3 (⟨n.val, by omega⟩ : Fin 18944) g (1 : Fin 3))).setWidth 32)
    ∧ (extui 32 (shapeCast S9472x896 (extractStridedSlice S9472x896x1 ![0, 0, 2] (extractStridedSlice S9472x896x3 ![0, 0, 0] w
        slices_S18944x896x3_S9472x896x3_0_0_0) slices_S9472x896x3_S9472x896x1_0_0_2) shapeCasts_S9472x896x1_S9472x896) natLt_8_32
        (ix2 n g) = (w (ix3 (⟨n.val, by omega⟩ : Fin 18944) g (2 : Fin 3))).setWidth 32) := by
  refine ⟨?_, ?_, ?_⟩ <;> pointwise

/-- A byte of the second half's weights, widened. -/
theorem byte_read1 (w : IVec S18944x896x3 8) (n : Fin 9472) (g : Fin 896) :
    (extui 32 (shapeCast S9472x896 (extractStridedSlice S9472x896x1 ![0, 0, 0] (extractStridedSlice S9472x896x3 ![9472, 0, 0] w
        slices_S18944x896x3_S9472x896x3_9472_0_0) slices_S9472x896x3_S9472x896x1_0_0_0) shapeCasts_S9472x896x1_S9472x896) natLt_8_32
        (ix2 n g) = (w (ix3 (⟨9472 + n.val, by omega⟩ : Fin 18944) g (0 : Fin 3))).setWidth 32)
    ∧ (extui 32 (shapeCast S9472x896 (extractStridedSlice S9472x896x1 ![0, 0, 1] (extractStridedSlice S9472x896x3 ![9472, 0, 0] w
        slices_S18944x896x3_S9472x896x3_9472_0_0) slices_S9472x896x3_S9472x896x1_0_0_1) shapeCasts_S9472x896x1_S9472x896) natLt_8_32
        (ix2 n g) = (w (ix3 (⟨9472 + n.val, by omega⟩ : Fin 18944) g (1 : Fin 3))).setWidth 32)
    ∧ (extui 32 (shapeCast S9472x896 (extractStridedSlice S9472x896x1 ![0, 0, 2] (extractStridedSlice S9472x896x3 ![9472, 0, 0] w
        slices_S18944x896x3_S9472x896x3_9472_0_0) slices_S9472x896x3_S9472x896x1_0_0_2) shapeCasts_S9472x896x1_S9472x896) natLt_8_32
        (ix2 n g) = (w (ix3 (⟨9472 + n.val, by omega⟩ : Fin 18944) g (2 : Fin 3))).setWidth 32) := by
  refine ⟨?_, ?_, ?_⟩ <;> pointwise

end Cert.ReferenceIdeal.Read
-- ==== Proof.RefValue.lean ====
module

public import proofs.«01_k».proof.Proof.RefRead

@[expose] public section

set_option maxRecDepth 16384

noncomputable section

open Idealize.ShloMosaic Idealize.ShloMosaic.TcCoe Idealize.ShloMosaic.StableHlo Idealize.SL.Sem
open Cert.Bytes Cert.Decode

/-! # What the reference leaves in its result, entry by entry -/

namespace Cert.ReferenceIdeal.Read

open Cert.ReferenceIdeal Cert.ReferenceIdeal.Gen Cert.ReferenceIdeal.Value

/-- Field `f` of group `g` of output column `n`, decoded as the reference decodes it. -/
def weight (w : IVec S18944x896x3 8) (n : Fin 18944) (g : Fin 896) (f : Fin 4) : EReal :=
  refVal (refCode f (w (ix3 n g (0 : Fin 3))) (w (ix3 n g (1 : Fin 3))) (w (ix3 n g (2 : Fin 3))))

/-- The reference's entry: the four fields' sums over the groups, times the column's scale. -/
def refEntry (x : FVec Ideal S96x1x3584 .bf16) (w : IVec S18944x896x3 8) (s : FVec Ideal S18944 .f32)
    (i : Fin 96) (n : Fin 18944) : EReal :=
  (∑ f : Fin 4, ∑ g : Fin 896, argAt x i g f * weight w n g f) * s (ix1 n)

section
variable (V0 : Valuation τ sig (Elt Ideal))

/-- The activations. -/
def xs : FVec Ideal S96x1x3584 .bf16 := V0 (Proc.devRef .tc main_arg0)
/-- The packed weights. -/
def ws : IVec S18944x896x3 8 := V0 (Proc.devRef .tc main_arg1)
/-- The scales. -/
def ss : FVec Ideal S18944 .f32 := V0 (Proc.devRef .tc main_arg2)

/-- The first half's codes at an index are those of the three bytes stored there. -/
theorem codes_read0 (n : Fin 9472) (g : Fin 896) (b : Fin 3 → BitVec 8)
    (hb : ∀ p, ws V0 (ix3 (⟨n.val, by omega⟩ : Fin 18944) g p) = b p) :
    res_main_v21 V0 (ix2 n g) = refCode 0 (b 0) (b 1) (b 2) ∧ res_main_v28 V0 (ix2 n g) = refCode 1 (b 0) (b 1) (b 2)
    ∧ res_main_v35 V0 (ix2 n g) = refCode 2 (b 0) (b 1) (b 2) ∧ res_main_v37 V0 (ix2 n g) = refCode 3 (b 0) (b 1) (b 2) := by
  obtain ⟨h0, h1, h2⟩ := byte_read0 (ws V0) n g
  have e0 : res_main_v13 V0 (ix2 n g) = (b 0).setWidth 32 := h0.trans (by rw [hb])
  have e1 : res_main_v16 V0 (ix2 n g) = (b 1).setWidth 32 := h1.trans (by rw [hb])
  have e2 : res_main_v19 V0 (ix2 n g) = (b 2).setWidth 32 := h2.trans (by rw [hb])
  refine ⟨?_, ?_, ?_, ?_⟩
  · show IntOp.andi (res_main_v13 V0 (ix2 n g)) 63#32 = _
    rw [e0]; rfl
  · show IntOp.ori (IntOp.shrsi .host (res_main_v13 V0 (ix2 n g)) 6#32)
      (IntOp.shli .host (IntOp.andi (res_main_v16 V0 (ix2 n g)) 15#32) 2#32) = _
    rw [e0, e1]; rfl
  · show IntOp.ori (IntOp.shrsi .host (res_main_v16 V0 (ix2 n g)) 4#32)
      (IntOp.shli .host (IntOp.andi (res_main_v19 V0 (ix2 n g)) 3#32) 4#32) = _
    rw [e1, e2]; rfl
  · show IntOp.shrsi .host (res_main_v19 V0 (ix2 n g)) 2#32 = _
    rw [e2]; rfl

/-- The second half's codes at an index are those of the three bytes stored there. -/
theorem codes_read1 (n : Fin 9472) (g : Fin 896) (b : Fin 3 → BitVec 8)
    (hb : ∀ p, ws V0 (ix3 (⟨9472 + n.val, by omega⟩ : Fin 18944) g p) = b p) :
    res_main_v189 V0 (ix2 n g) = refCode 0 (b 0) (b 1) (b 2) ∧ res_main_v196 V0 (ix2 n g) = refCode 1 (b 0) (b 1) (b 2)
    ∧ res_main_v203 V0 (ix2 n g) = refCode 2 (b 0) (b 1) (b 2) ∧ res_main_v205 V0 (ix2 n g) = refCode 3 (b 0) (b 1) (b 2) := by
  obtain ⟨h0, h1, h2⟩ := byte_read1 (ws V0) n g
  have e0 : res_main_v181 V0 (ix2 n g) = (b 0).setWidth 32 := h0.trans (by rw [hb])
  have e1 : res_main_v184 V0 (ix2 n g) = (b 1).setWidth 32 := h1.trans (by rw [hb])
  have e2 : res_main_v187 V0 (ix2 n g) = (b 2).setWidth 32 := h2.trans (by rw [hb])
  refine ⟨?_, ?_, ?_, ?_⟩
  · show IntOp.andi (res_main_v181 V0 (ix2 n g)) 63#32 = _
    rw [e0]; rfl
  · show IntOp.ori (IntOp.shrsi .host (res_main_v181 V0 (ix2 n g)) 6#32)
      (IntOp.shli .host (IntOp.andi (res_main_v184 V0 (ix2 n g)) 15#32) 2#32) = _
    rw [e0, e1]; rfl
  · show IntOp.ori (IntOp.shrsi .host (res_main_v184 V0 (ix2 n g)) 4#32)
      (IntOp.shli .host (IntOp.andi (res_main_v187 V0 (ix2 n g)) 3#32) 4#32) = _
    rw [e1, e2]; rfl
  · show IntOp.shrsi .host (res_main_v187 V0 (ix2 n g)) 2#32 = _
    rw [e2]; rfl

/-- The four fields of the activations. -/
theorem fields (i : Fin 96) (g : Fin 896) :
    res_main_v2 V0 (ix2 i g) = argAt (xs V0) i g 0 ∧ res_main_v4 V0 (ix2 i g) = argAt (xs V0) i g 1
    ∧ res_main_v6 V0 (ix2 i g) = argAt (xs V0) i g 2 ∧ res_main_v8 V0 (ix2 i g) = argAt (xs V0) i g 3 :=
  field_read (xs V0) i g

/-- The scales of the first half. -/
theorem scale_read0 (s : FVec Ideal S18944 .f32) (n : Fin 9472) :
    extractStridedSlice S9472 ![0] s slices_S18944_S9472_0 (ix1 n) = s (ix1 (⟨n.val, by omega⟩ : Fin 18944)) := by
  pointwise
/-- The scales of the second half. -/
theorem scale_read1 (s : FVec Ideal S18944 .f32) (n : Fin 9472) :
    extractStridedSlice S9472 ![9472] s slices_S18944_S9472_9472 (ix1 n) = s (ix1 (⟨9472 + n.val, by omega⟩ : Fin 18944)) := by
  pointwise

/-- The first half's entry. -/
theorem v176_apply (i : Fin 96) (n : Fin 9472) :
    res_main_v176 V0 (ix2 i n) = refEntry (xs V0) (ws V0) (ss V0) i (⟨n.val, by omega⟩ : Fin 18944) := by
  rw [v176_eq, half_apply]
  refine congr (congrArg _ ?_) (scale_read0 (ss V0) n)
  rw [Fin.sum_univ_four]
  simp only [dot_apply]
  refine congr (congrArg _ (congr (congrArg _ (congr (congrArg _ ?_) ?_)) ?_)) ?_ <;> refine Finset.sum_congr rfl fun g _ => ?_
  · rw [(fields V0 i g).1, (codes_read0 V0 n g _ fun _ => rfl).1]; rfl
  · rw [(fields V0 i g).2.1, (codes_read0 V0 n g _ fun _ => rfl).2.1]; rfl
  · rw [(fields V0 i g).2.2.1, (codes_read0 V0 n g _ fun _ => rfl).2.2.1]; rfl
  · rw [(fields V0 i g).2.2.2, (codes_read0 V0 n g _ fun _ => rfl).2.2.2]; rfl

/-- The second half's entry. -/
theorem v344_apply (i : Fin 96) (n : Fin 9472) :
    res_main_v344 V0 (ix2 i n) = refEntry (xs V0) (ws V0) (ss V0) i (⟨9472 + n.val, by omega⟩ : Fin 18944) := by
  rw [v344_eq, half_apply]
  refine congr (congrArg _ ?_) (scale_read1 (ss V0) n)
  rw [Fin.sum_univ_four]
  simp only [dot_apply]
  refine congr (congrArg _ (congr (congrArg _ (congr (congrArg _ ?_) ?_)) ?_)) ?_ <;> refine Finset.sum_congr rfl fun g _ => ?_
  · rw [(fields V0 i g).1, (codes_read1 V0 n g _ fun _ => rfl).1]; rfl
  · rw [(fields V0 i g).2.1, (codes_read1 V0 n g _ fun _ => rfl).2.1]; rfl
  · rw [(fields V0 i g).2.2.1, (codes_read1 V0 n g _ fun _ => rfl).2.2.1]; rfl
  · rw [(fields V0 i g).2.2.2, (codes_read1 V0 n g _ fun _ => rfl).2.2.2]; rfl

end

/-- Two halves side by side, read in the left one. -/
theorem joined_left (a b : FVec Ideal S96x9472 .bf16) (i : Fin 96) (u : Fin 1) (n : Fin 9472) :
    shapeCast S96x1x18944 (concatenate S96x18944 1 [⟨S96x9472, a⟩, ⟨S96x9472, b⟩] concatenates_S96x9472_S96x9472_S96x18944_d1)
      shapeCasts_S96x18944_S96x1x18944 (ix3 i u (⟨n.val, by omega⟩ : Fin 18944)) = a (ix2 i n) := by
  pointwise

/-- Two halves side by side, read in the right one. -/
theorem joined_right (a b : FVec Ideal S96x9472 .bf16) (i : Fin 96) (u : Fin 1) (n : Fin 9472) :
    shapeCast S96x1x18944 (concatenate S96x18944 1 [⟨S96x9472, a⟩, ⟨S96x9472, b⟩] concatenates_S96x9472_S96x9472_S96x18944_d1)
      shapeCasts_S96x18944_S96x1x18944 (ix3 i u (⟨9472 + n.val, by omega⟩ : Fin 18944)) = b (ix2 i n) := by
  pointwise

/-- The reference's result, over its three arguments. -/
def result (x : FVec Ideal S96x1x3584 .bf16) (w : IVec S18944x896x3 8) (s : FVec Ideal S18944 .f32) :
    FVec Ideal S96x1x18944 .bf16 := fun j => refEntry x w s (j 0) (j 2)

/-- The array the reference's run leaves is `result`. -/
theorem joined (V0 : Valuation τ sig (Elt Ideal)) :
    shapeCast S96x1x18944 (concatenate S96x18944 1 [⟨S96x9472, res_main_v176 V0⟩, ⟨S96x9472, res_main_v344 V0⟩]
      concatenates_S96x9472_S96x9472_S96x18944_d1) shapeCasts_S96x18944_S96x1x18944 = result (xs V0) (ws V0) (ss V0) := by
  funext j
  idx_vars j
  generalize j0 = i
  generalize j1 = u
  generalize j2 = n
  by_cases h : n.val < 9472
  · exact (joined_left _ _ i u ⟨n.val, h⟩).trans (v176_apply V0 i ⟨n.val, h⟩)
  · have e : n = (⟨9472 + (⟨n.val - 9472, by omega⟩ : Fin 9472).val, by simp only; omega⟩ : Fin 18944) :=
      Fin.ext (by simp only; omega)
    rw [e]
    exact (joined_right _ _ i u _).trans (v344_apply V0 i _)

/-- The reference runs, ends with `result` of its arguments, and leaves the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v346)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (joined (launchContents m c)), (h c).2⟩) (Value.run m ρ)

end Cert.ReferenceIdeal.Read
-- ==== Proof.Equation.lean ====
module

public import proofs.«01_k».proof.Proof.Value
public import proofs.«01_k».proof.Proof.RefValue

@[expose] public section

set_option maxRecDepth 16384

noncomputable section

open Idealize.ShloMosaic
open Cert.Bytes Cert.Decode Cert.KernelIdeal.Block Cert.KernelIdeal.Array

/-! # The kernel's entry is the reference's -/

namespace Cert.Equation

/-- Multiplying a sum by 4096 multiplies each term. -/
theorem sum_mul_4096 {ι : Type} (t : Finset ι) (f : ι → EReal) :
    (∑ k ∈ t, f k) * ((4096 : ℝ) : EReal) = ∑ k ∈ t, f k * ((4096 : ℝ) : EReal) := by
  classical
  induction t using Finset.induction_on with
  | empty => simp
  | insert a t ha ih =>
    rw [Finset.sum_insert ha, Finset.sum_insert ha, ← ih,
      EReal.right_distrib_of_nonneg_of_ne_top (EReal.coe_nonneg.mpr (by norm_num)) (EReal.coe_ne_top _)]

/-- A chunk's sum times 4096 is the chunk's share of the reference's sum. -/
theorem chunk_mul (X : Fin 4 → Fin 128 → EReal) (B : Fin 3 → Fin 128 → BitVec 8) :
    chunkSum X B * ((4096 : ℝ) : EReal)
      = ∑ f : Fin 4, ∑ l : Fin 128, X f l * refVal (refCode f (B 0 l) (B 1 l) (B 2 l)) := by
  unfold chunkSum
  rw [sum_mul_4096]
  refine Finset.sum_congr rfl fun f _ => ?_
  rw [sum_mul_4096]
  refine Finset.sum_congr rfl fun l _ => ?_
  rw [mul_assoc, field_mul]

/-- The 896 groups, taken as seven chunks of 128. -/
theorem groups (h : Fin 896 → EReal) : ∑ g : Fin 896, h g = ∑ ch : Fin 7, ∑ l : Fin 128, h (grp ch l) :=
  Fin.sum_univ_tiles 7 128 rfl h

/-- The two entries are equal, at every activation, weight and scale. -/
theorem entry_eq (x : FVec Ideal Cert.KernelIdeal.S96x1x3584 .bf16) (w : IVec Cert.KernelIdeal.S18944x896x3 8)
    (s : FVec Ideal Cert.KernelIdeal.S18944 .f32) (i : Fin 96) (n : Fin 18944) :
    kernelEntry x w s i n = Cert.ReferenceIdeal.Read.refEntry x w s i n := by
  unfold kernelEntry Cert.ReferenceIdeal.Read.refEntry
  rw [sum_mul_4096]
  congr 1
  rw [Finset.sum_congr rfl fun f _ => groups _, Finset.sum_comm]
  exact Finset.sum_congr rfl fun ch _ => chunk_mul _ _

/-- The two programs' results are equal arrays. -/
theorem result_eq (x : FVec Ideal Cert.KernelIdeal.S96x1x3584 .bf16) (w : IVec Cert.KernelIdeal.S18944x896x3 8)
    (s : FVec Ideal Cert.KernelIdeal.S18944 .f32) :
    Cert.ReferenceIdeal.Read.result x w s = Cert.KernelIdeal.Array.result x w s :=
  funext fun j => (entry_eq x w s (j 0) (j 2)).symm

end Cert.Equation
-- ==== Proof.lean ====
/- The proof of the certificate's claim: each of the three programs runs, leaves its arguments as they were and ends with
   every semaphore counter at zero; reading the kernel over exact numbers rewrites none of its operations; and over exact
   numbers the kernel's result and the reference's are the same array. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- The kernel runs, leaves its arguments as they were and ends with every counter at zero. -/
theorem frame_p : Cert.quiescent_Kernel (hKernel := Cert.Kernel.Gen.facts) :=
  fun m ρ _ => Cert.Kernel.Gen.frame m ρ

/-- So does the kernel over exact numbers. -/
theorem frame_pi : Cert.quiescent_KernelIdeal (hKernelIdeal := Cert.KernelIdeal.Gen.facts) :=
  fun m ρ _ => Cert.KernelIdeal.Gen.frame m ρ

/-- So does the reference over exact numbers; it has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Read.run m ρ)

/-- Over exact numbers the kernel and the reference, given equal arguments, end with equal results: both with the array
    the kernel's entry formula gives. -/
theorem algebraic : Cert.algebraic_KernelIdeal_ReferenceIdeal (hKernelIdeal := Cert.KernelIdeal.Gen.facts)
    (hReferenceIdeal := Cert.ReferenceIdeal.Gen.facts) := by
  intro m g m' g' _ hin
  refine ⟨fun c => Cert.KernelIdeal.Array.result (m ((c.tc : Thread _ _).loc Cert.KernelIdeal.main_arg0))
      (m ((c.tc : Thread _ _).loc Cert.KernelIdeal.main_arg1)) (m ((c.tc : Thread _ _).loc Cert.KernelIdeal.main_arg2)),
    Cert.KernelIdeal.Array.run m g,
    (θ_run Cert.ReferenceIdeal.defs _ _).mono (fun r h c => ⟨(h c).1.trans ?_, (h c).2⟩) (Cert.ReferenceIdeal.Read.run m' g')⟩
  rw [(hin c).1, (hin c).2.1, (hin c).2.2]
  exact Cert.Equation.result_eq _ _ _

/-- Everything the certificate claims. -/
theorem claim : Cert.Claim := ⟨Cert.Kernel.Gen.facts, Cert.KernelIdeal.Gen.facts, Cert.ReferenceIdeal.Gen.facts,
  frame_p, frame_pi, frame_ri, trivial, algebraic⟩

end Cert.Proof

end
